-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 1024, 4, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 1024, 4, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v53) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  bcast_S_S512x256 : S_.BroadcastsInDim S512x256 (![] : Fin 0 → Fin S512x256.rank)
  bcast_S_S2x128x4x64 : S_.BroadcastsInDim S2x128x4x64 (![] : Fin 0 → Fin S2x128x4x64.rank)

variable [Facts]

def fn {F : FTy → Type} [FloatOps F] (main_arg0 : FVec F S2x128x512 .bf16) (main_arg1 : FVec F S512x256 .bf16) (main_arg2 : FVec F S2x128x4x64 .bf16) (main_arg3 : FVec F S2x128x4x64 .bf16) (main_arg4 : FVec F S256x512 .bf16) : IVec S2x128x512 1 × IVec S512x256 1 × IVec S2x128x4x64 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_v3 : FVec F S512x256 .bf16 := Host.absf main_arg1
  let main_cst_0 : FVec F S_ .bf16 := constant S_ .bf16 0x7F80#16
  let main_v4 : FVec F S512x256 .bf16 := broadcastInDim S512x256 ![] bcast_S_S512x256 main_cst_0
  let main_v5 : IVec S512x256 1 := cmpf .olt main_v3 main_v4
  let main_v6 : FVec F S2x128x4x64 .bf16 := Host.absf main_arg2
  let main_cst_1 : FVec F S_ .bf16 := constant S_ .bf16 0x7F80#16
  let main_v7 : FVec F S2x128x4x64 .bf16 := broadcastInDim S2x128x4x64 ![] bcast_S_S2x128x4x64 main_cst_1
  let main_v8 : IVec S2x128x4x64 1 := cmpf .olt main_v6 main_v7
  (main_v2, main_v5, main_v8)
-- ==== Pre_finite_scores_ReferenceIdeal.lean ====
abbrev S2x128x512 : Shape := ⟨3, ![2, 128, 512]⟩
abbrev S512x256 : Shape := ⟨2, ![512, 256]⟩
abbrev S2x1024x4x64 : Shape := ⟨4, ![2, 1024, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  bcast_S_S512x256 : S_.BroadcastsInDim S512x256 (![] : Fin 0 → Fin S512x256.rank)
  bcast_S_S2x1024x4x64 : S_.BroadcastsInDim S2x1024x4x64 (![] : Fin 0 → Fin S2x1024x4x64.rank)

variable [Facts]

def fn {F : FTy → Type} [FloatOps F] (main_arg0 : FVec F S2x128x512 .bf16) (main_arg1 : FVec F S512x256 .bf16) (main_arg2 : FVec F S2x1024x4x64 .bf16) (main_arg3 : FVec F S2x1024x4x64 .bf16) (main_arg4 : FVec F S256x512 .bf16) : IVec S2x128x512 1 × IVec S512x256 1 × IVec S2x1024x4x64 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_v3 : FVec F S512x256 .bf16 := Host.absf main_arg1
  let main_cst_0 : FVec F S_ .bf16 := constant S_ .bf16 0x7F80#16
  let main_v4 : FVec F S512x256 .bf16 := broadcastInDim S512x256 ![] bcast_S_S512x256 main_cst_0
  let main_v5 : IVec S512x256 1 := cmpf .olt main_v3 main_v4
  let main_v6 : FVec F S2x1024x4x64 .bf16 := Host.absf main_arg2
  let main_cst_1 : FVec F S_ .bf16 := constant S_ .bf16 0x7F80#16
  let main_v7 : FVec F S2x1024x4x64 .bf16 := broadcastInDim S2x1024x4x64 ![] bcast_S_S2x1024x4x64 main_cst_1
  let main_v8 : IVec S2x1024x4x64 1 := cmpf .olt main_v6 main_v7
  (main_v2, main_v5, main_v8)
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S3x5x128x128 : Shape := ⟨4, ![3, 5, 128, 128]⟩
abbrev S3 : Shape := ⟨1, ![3]⟩
abbrev S_ : Shape := ⟨0, ![]⟩
abbrev S128x128 : Shape := ⟨2, ![128, 128]⟩
abbrev S1x128x512 : Shape := ⟨3, ![1, 128, 512]⟩
abbrev S128x512 : Shape := ⟨2, ![128, 512]⟩
abbrev S128x256 : Shape := ⟨2, ![128, 256]⟩
abbrev S128x64 : Shape := ⟨2, ![128, 64]⟩
abbrev S1x128x1x64 : Shape := ⟨4, ![1, 128, 1, 64]⟩
abbrev S128 : Shape := ⟨1, ![128]⟩
abbrev S128x1 : Shape := ⟨2, ![128, 1]⟩
abbrev S128x112 : Shape := ⟨2, ![128, 112]⟩
abbrev S1x128x128 : Shape := ⟨3, ![1, 128, 128]⟩
abbrev S5x128x128 : Shape := ⟨3, ![5, 128, 128]⟩
abbrev S1x5x128x128 : Shape := ⟨4, ![1, 5, 128, 128]⟩
abbrev S1 : Shape := ⟨1, ![1]⟩
abbrev S1x1x128x128 : Shape := ⟨4, ![1, 1, 128, 128]⟩

abbrev nBuf : Space → Nat
  | .hbm => 6
  | .vmem => 8
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x4x64, .bf16⟩
  | .hbm, ⟨3, _⟩ => ⟨S2x128x4x64, .bf16⟩
  | .hbm, ⟨4, _⟩ => ⟨S256x512, .bf16⟩
  | .hbm, ⟨5, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S2x128x4x64, .bf16⟩
  | .local _ .vmem, ⟨3, _⟩ => ⟨S2x128x4x64, .bf16⟩
  | .local _ .vmem, ⟨4, _⟩ => ⟨S256x512, .bf16⟩
  | .local _ .vmem, ⟨5, _⟩ => ⟨S2x128x512, .f32⟩
  | .local _ .vmem, ⟨6, _⟩ => ⟨S3x5x128x128, .bf16⟩
  | .local _ .vmem, ⟨7, _⟩ => ⟨S3x5x128x128, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_2 : BitVec 32 := 1#32
  let v7 : BitVec 32 := Scalar.muli v3 c1_i32_2
  let v8 : BitVec 32 := Scalar.addi c0_i32 v7
  v8.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v4 : BitVec 32 := Scalar.xori v2 c2_i32
  let c1_i32_4 : BitVec 32 := 1#32
  let v9 : BitVec 32 := Scalar.muli v4 c1_i32_4
  let v10 : BitVec 32 := Scalar.addi c0_i32_5 v9
  v10.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_7 : BitVec 32 := 1#32
  let v11 : BitVec 32 := Scalar.muli v5 c1_i32_7
  let v12 : BitVec 32 := Scalar.addi c0_i32_8 v11
  v12.toNat
def k0_dev4 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_154 : BitVec 32 := 1#32
  let v262 : BitVec 32 := Scalar.muli v3 c1_i32_154
  let v263 : BitVec 32 := Scalar.addi c0_i32_155 v262
  v263.toNat
def k0_dev5 (d0 : Dev nD) : Nat :=
  let c0_i32_230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v4 : BitVec 32 := Scalar.xori v2 c2_i32
  let c1_i32_229 : BitVec 32 := 1#32
  let v457 : BitVec 32 := Scalar.muli v4 c1_i32_229
  let v458 : BitVec 32 := Scalar.addi c0_i32_230 v457
  v458.toNat
def k0_dev6 (d0 : Dev nD) : Nat :=
  let c0_i32_306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_305 : BitVec 32 := 1#32
  let v652 : BitVec 32 := Scalar.muli v5 c1_i32_305
  let v653 : BitVec 32 := Scalar.addi c0_i32_306 v652
  v653.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x256 : Shape := ⟨2, ![512, 256]⟩
abbrev S2x1024x4x64 : Shape := ⟨4, ![2, 1024, 4, 64]⟩
abbrev S256x512 : Shape := ⟨2, ![256, 512]⟩
abbrev S2x128x256 : Shape := ⟨3, ![2, 128, 256]⟩
abbrev S2x128x4x64 : Shape := ⟨4, ![2, 128, 4, 64]⟩
abbrev S128 : Shape := ⟨1, ![128]⟩
abbrev S_ : Shape := ⟨0, ![]⟩
abbrev S128x1 : Shape := ⟨2, ![128, 1]⟩
abbrev S1024 : Shape := ⟨1, ![1024]⟩
abbrev S1x1024 : Shape := ⟨2, ![1, 1024]⟩
abbrev S128x1024 : Shape := ⟨2, ![128, 1024]⟩
abbrev S2x4x128x1024 : Shape := ⟨4, ![2, 4, 128, 1024]⟩
abbrev S1x1x128x1024 : Shape := ⟨4, ![1, 1, 128, 1024]⟩
abbrev S2x4x128 : Shape := ⟨3, ![2, 4, 128]⟩
abbrev S2x4x128x1 : Shape := ⟨4, ![2, 4, 128, 1]⟩
abbrev S1x1x128x1 : Shape := ⟨4, ![1, 1, 128, 1]⟩
abbrev S2x4x64x128 : Shape := ⟨4, ![2, 4, 64, 128]⟩

abbrev nBuf : Space → Nat
  | .hbm => 132
  | .vmem => 0
  | .smem => 0
  | _ => 0

abbrev hbmTy0_0 (i : Nat) : BufTy := match i % 128 with
  | 0 => ⟨S2x128x512, .bf16⟩
  | 1 => ⟨S512x256, .bf16⟩
  | 2 => ⟨S2x1024x4x64, .bf16⟩
  | 3 => ⟨S2x1024x4x64, .bf16⟩
  | 4 => ⟨S256x512, .bf16⟩
  | 5 => ⟨S2x128x512, .f32⟩
  | 6 => ⟨S512x256, .f32⟩
  | 7 => ⟨S2x128x256, .f32⟩
  | 8 => ⟨S2x128x256, .bf16⟩
  | 9 => ⟨S2x128x4x64, .bf16⟩
  | 10 => ⟨S128, .i32⟩
  | 11 => ⟨S_, .i32⟩
  | 12 => ⟨S_, .i32⟩
  | 13 => ⟨S128, .i32⟩
  | 14 => ⟨S128, .i32⟩
  | 15 => ⟨S128, .i32⟩
  | 16 => ⟨S_, .i32⟩
  | 17 => ⟨S128, .i32⟩
  | 18 => ⟨S128, .i1⟩
  | 19 => ⟨S128, .i32⟩
  | 20 => ⟨S128, .i32⟩
  | 21 => ⟨S_, .i32⟩
  | 22 => ⟨S128, .i32⟩
  | 23 => ⟨S128, .i1⟩
  | 24 => ⟨S128, .i1⟩
  | 25 => ⟨S_, .i32⟩
  | 26 => ⟨S128, .i32⟩
  | 27 => ⟨S128, .i32⟩
  | 28 => ⟨S128, .i32⟩
  | 29 => ⟨S128x1, .i32⟩
  | 30 => ⟨S1024, .i32⟩
  | 31 => ⟨S_, .i32⟩
  | 32 => ⟨S_, .i32⟩
  | 33 => ⟨S1024, .i32⟩
  | 34 => ⟨S1024, .i32⟩
  | 35 => ⟨S1024, .i32⟩
  | 36 => ⟨S_, .i32⟩
  | 37 => ⟨S1024, .i32⟩
  | 38 => ⟨S1024, .i1⟩
  | 39 => ⟨S1024, .i32⟩
  | 40 => ⟨S1024, .i32⟩
  | 41 => ⟨S_, .i32⟩
  | 42 => ⟨S1024, .i32⟩
  | 43 => ⟨S1024, .i1⟩
  | 44 => ⟨S1024, .i1⟩
  | 45 => ⟨S_, .i32⟩
  | 46 => ⟨S1024, .i32⟩
  | 47 => ⟨S1024, .i32⟩
  | 48 => ⟨S1024, .i32⟩
  | 49 => ⟨S1x1024, .i32⟩
  | 50 => ⟨S128x1024, .i32⟩
  | 51 => ⟨S128x1024, .i32⟩
  | 52 => ⟨S128x1024, .i1⟩
  | 53 => ⟨S_, .i32⟩
  | 54 => ⟨S1x1024, .i32⟩
  | 55 => ⟨S1x1024, .i1⟩
  | 56 => ⟨S128x1024, .i1⟩
  | 57 => ⟨S128x1024, .i1⟩
  | 58 => ⟨S128x1024, .i32⟩
  | 59 => ⟨S128x1024, .i32⟩
  | 60 => ⟨S128x1024, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S128x1024, .i32⟩
  | 68 => ⟨S128x1024, .i32⟩
  | 69 => ⟨S_, .i32⟩
  | 70 => ⟨S128x1024, .i32⟩
  | 71 => ⟨S128x1024, .i1⟩
  | 72 => ⟨S_, .i32⟩
  | 73 => ⟨S128x1024, .i32⟩
  | 74 => ⟨S128x1024, .i1⟩
  | 75 => ⟨S_, .i32⟩
  | 76 => ⟨S_, .i1⟩
  | 77 => ⟨S128x1024, .i1⟩
  | 78 => ⟨S128x1024, .i1⟩
  | 79 => ⟨S128x1024, .i1⟩
  | 80 => ⟨S128x1024, .i32⟩
  | 81 => ⟨S128x1024, .i32⟩
  | 82 => ⟨S128x1024, .i32⟩
  | 83 => ⟨S_, .i32⟩
  | 84 => ⟨S128x1024, .i32⟩
  | 85 => ⟨S128x1024, .i1⟩
  | 86 => ⟨S128x1024, .i1⟩
  | 87 => ⟨S2x128x4x64, .f32⟩
  | 88 => ⟨S2x1024x4x64, .f32⟩
  | 89 => ⟨S2x4x128x1024, .f32⟩
  | 90 => ⟨S2x4x128x1024, .bf16⟩
  | 91 => ⟨S2x4x128x1024, .f32⟩
  | 92 => ⟨S_, .f32⟩
  | 93 => ⟨S2x4x128x1024, .f32⟩
  | 94 => ⟨S2x4x128x1024, .f32⟩
  | 95 => ⟨S1x1x128x1024, .i1⟩
  | 96 => ⟨S_, .f32⟩
  | 97 => ⟨S_, .f32⟩
  | 98 => ⟨S2x4x128x1024, .i1⟩
  | 99 => ⟨S2x4x128x1024, .f32⟩
  | 100 => ⟨S2x4x128x1024, .f32⟩
  | 101 => ⟨S_, .f32⟩
  | 102 => ⟨S2x4x128, .f32⟩
  | 103 => ⟨S2x4x128x1, .f32⟩
  | 104 => ⟨S2x4x128x1024, .f32⟩
  | 105 => ⟨S2x4x128x1024, .f32⟩
  | 106 => ⟨S2x4x128x1024, .f32⟩
  | 107 => ⟨S_, .i1⟩
  | 108 => ⟨S128, .i1⟩
  | 109 => ⟨S1x1x128x1, .i1⟩
  | 110 => ⟨S_, .f32⟩
  | 111 => ⟨S2x4x128, .f32⟩
  | 112 => ⟨S2x4x128x1, .f32⟩
  | 113 => ⟨S_, .f32⟩
  | 114 => ⟨S_, .f32⟩
  | 115 => ⟨S2x4x128x1, .i1⟩
  | 116 => ⟨S2x4x128x1, .f32⟩
  | 117 => ⟨S2x4x128x1, .f32⟩
  | 118 => ⟨S2x4x128x1024, .f32⟩
  | 119 => ⟨S2x4x128x1024, .f32⟩
  | 120 => ⟨S1x1x128x1, .i1⟩
  | 121 => ⟨S_, .f32⟩
  | 122 => ⟨S_, .f32⟩
  | 123 => ⟨S2x4x128x1024, .i1⟩
  | 124 => ⟨S2x4x128x1024, .f32⟩
  | 125 => ⟨S2x4x128x1024, .f32⟩
  | 126 => ⟨S2x1024x4x64, .f32⟩
  | 127 => ⟨S2x4x64x128, .f32⟩
  | _ => ⟨S2x128x512, .bf16⟩

abbrev hbmTy0_1 (i : Nat) : BufTy := match i % 128 with
  | 0 => ⟨S2x128x4x64, .f32⟩
  | 1 => ⟨S2x128x256, .f32⟩
  | 2 => ⟨S256x512, .f32⟩
  | 3 => ⟨S2x128x512, .f32⟩
  | _ => ⟨S2x128x512, .bf16⟩

abbrev hbmTy (i : Nat) : BufTy := match i / 128 with
  | 0 => hbmTy0_0 i
  | 1 => hbmTy0_1 i
  | _ => ⟨S2x128x512, .bf16⟩

abbrev bufTy : (tb : Table) → Fin (tcTables nBuf tb) → BufTy
  | .hbm, ⟨i, _⟩ => hbmTy i
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_c_1 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_c_2 : Ref sig .tc := ⟨.hbm, 61, rfl⟩
abbrev main_call2_v0 : Ref sig .tc := ⟨.hbm, 62, rfl⟩
abbrev main_call2_c : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_c_1 : Ref sig .tc := ⟨.hbm, 69, rfl⟩
abbrev main_call2_v5 : Ref sig .tc := ⟨.hbm, 70, rfl⟩
abbrev main_call2_v6 : Ref sig .tc := ⟨.hbm, 71, rfl⟩
abbrev main_call2_c_2 : Ref sig .tc := ⟨.hbm, 72, rfl⟩
abbrev main_call2_v7 : Ref sig .tc := ⟨.hbm, 73, rfl⟩
abbrev main_call2_v8 : Ref sig .tc := ⟨.hbm, 74, rfl⟩
abbrev main_call2_c_3 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_v21 : Ref sig .tc := ⟨.hbm, 82, rfl⟩
abbrev main_c_3 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_cst : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_cst_4 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_v33 : Ref sig .tc := ⟨.hbm, 100, rfl⟩
abbrev main_cst_5 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_c_6 : Ref sig .tc := ⟨.hbm, 107, rfl⟩
abbrev main_v39 : Ref sig .tc := ⟨.hbm, 108, rfl⟩
abbrev main_v40 : Ref sig .tc := ⟨.hbm, 109, rfl⟩
abbrev main_cst_7 : Ref sig .tc := ⟨.hbm, 110, rfl⟩
abbrev main_v41 : Ref sig .tc := ⟨.hbm, 111, rfl⟩
abbrev main_v42 : Ref sig .tc := ⟨.hbm, 112, rfl⟩
abbrev main_cst_8 : Ref sig .tc := ⟨.hbm, 113, rfl⟩
abbrev main_call4_v0 : Ref sig .tc := ⟨.hbm, 114, rfl⟩
abbrev main_call4_v1 : Ref sig .tc := ⟨.hbm, 115, rfl⟩
abbrev main_call4_v2 : Ref sig .tc := ⟨.hbm, 116, rfl⟩
abbrev main_v43 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_cst_9 : Ref sig .tc := ⟨.hbm, 121, rfl⟩
abbrev main_call5_v0 : Ref sig .tc := ⟨.hbm, 122, rfl⟩
abbrev main_call5_v1 : Ref sig .tc := ⟨.hbm, 123, rfl⟩
abbrev main_call5_v2 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩
abbrev main_v50 : Ref sig .tc := ⟨.hbm, 128, rfl⟩
abbrev main_v51 : Ref sig .tc := ⟨.hbm, 129, rfl⟩
abbrev main_v52 : Ref sig .tc := ⟨.hbm, 130, rfl⟩
abbrev main_v53 : Ref sig .tc := ⟨.hbm, 131, rfl⟩

abbrev nD : Nat := 1
abbrev τ : Topo := Topo.v7x

variable {F : FTy → Type} [FloatOps F]
-- ==== Proof.Values.lean ====
/-
# The values the kernel computes, named

Every vector the kernel holds across two of its printed stretches, as a function of what the device is given: its own
index and blocks of the arguments (`Args`), and the packed partial results it has received so far (`P0` from the first
exchange, `P1` from the second, `P2` from the third). Each name is the number of the statement of the printed kernel whose
value it is. Everything is stated for any float values `F`.
-/
module

public import proofs.«01_k».proof.Proof.Gen.KernelIdeal
public import proofs.«01_k».proof.Proof.Gen.KernelIdeal.Skeleton
public import Idealize.ShloMosaic.Lib.ValueLayout

@[expose] public section

noncomputable section

namespace Cert.KernelIdeal.Attn

open Cert.KernelIdeal Cert.KernelIdeal.Gen
open Idealize.ShloMosaic Idealize.ShloMosaic.ValueIdx

variable {F : FTy → Type} [FloatOps F]

/-- One exchanged block: four tiles of two heads' accumulators each, and a tile of the maxima and the sums. -/
abbrev Pack (F : FTy → Type) : Type := Vec F S5x128x128 .bf16

/-- What a device starts from: its index and the contents of its staged argument blocks. -/
structure Args (F : FTy → Type) where
  /-- The device. -/
  c : Dev nD
  /-- Its copy of the queries' input. -/
  x : (cc0_stg0_0 : Ref sig .tc).ty.Contents (Elt F)
  /-- The query weights. -/
  wq : (cc0_stg1_0 : Ref sig .tc).ty.Contents (Elt F)
  /-- Its block of the keys. -/
  k : (cc0_stg2_0 : Ref sig .tc).ty.Contents (Elt F)
  /-- Its block of the values. -/
  v : (cc0_stg3_0 : Ref sig .tc).ty.Contents (Elt F)
  /-- The output weights. -/
  wo : (cc0_stg4_0 : Ref sig .tc).ty.Contents (Elt F)

/-- Tile `t` of a received block, as a load of it gives it. -/
def tile (t : Fin 5) (P : Pack F) : Vec F S1x1x128x128 .bf16 := fun i => P (ix3 t (i 2) (i 3))

/-- The block that travels: the stored vector without its leading unit axis. -/
def flat (w : FVec F S1x5x128x128 .bf16) : Pack F := shapeCast S5x128x128 w shapeCasts_S1x5x128x128_S5x128x128

/-! ## What the kernel reads of its arguments -/

def ldK00 (a : Args F) : Vec F S1x128x1x64 .bf16 :=
  (Memref.whole cc0_stg2_0).view.readAt (Elt F) (Rect.unit (s := S2x128x4x64) ![0, 0, 0, 0] S1x128x1x64.size inb_S2x128x4x64_S1x128x1x64_0_0_0_0).toLoadRect a.k
def ldK01 (a : Args F) : Vec F S1x128x1x64 .bf16 :=
  (Memref.whole cc0_stg2_0).view.readAt (Elt F) (Rect.unit (s := S2x128x4x64) ![0, 0, 1, 0] S1x128x1x64.size inb_S2x128x4x64_S1x128x1x64_0_0_1_0).toLoadRect a.k
def ldK02 (a : Args F) : Vec F S1x128x1x64 .bf16 :=
  (Memref.whole cc0_stg2_0).view.readAt (Elt F) (Rect.unit (s := S2x128x4x64) ![0, 0, 2, 0] S1x128x1x64.size inb_S2x128x4x64_S1x128x1x64_0_0_2_0).toLoadRect a.k
def ldK03 (a : Args F) : Vec F S1x128x1x64 .bf16 :=
  (Memref.whole cc0_stg2_0).view.readAt (Elt F) (Rect.unit (s := S2x128x4x64) ![0, 0, 3, 0] S1x128x1x64.size inb_S2x128x4x64_S1x128x1x64_0_0_3_0).toLoadRect a.k
def ldK10 (a : Args F) : Vec F S1x128x1x64 .bf16 :=
  (Memref.whole cc0_stg2_0).view.readAt (Elt F) (Rect.unit (s := S2x128x4x64) ![1, 0, 0, 0] S1x128x1x64.size inb_S2x128x4x64_S1x128x1x64_1_0_0_0).toLoadRect a.k
def ldK11 (a : Args F) : Vec F S1x128x1x64 .bf16 :=
  (Memref.whole cc0_stg2_0).view.readAt (Elt F) (Rect.unit (s := S2x128x4x64) ![1, 0, 1, 0] S1x128x1x64.size inb_S2x128x4x64_S1x128x1x64_1_0_1_0).toLoadRect a.k
def ldK12 (a : Args F) : Vec F S1x128x1x64 .bf16 :=
  (Memref.whole cc0_stg2_0).view.readAt (Elt F) (Rect.unit (s := S2x128x4x64) ![1, 0, 2, 0] S1x128x1x64.size inb_S2x128x4x64_S1x128x1x64_1_0_2_0).toLoadRect a.k
def ldK13 (a : Args F) : Vec F S1x128x1x64 .bf16 :=
  (Memref.whole cc0_stg2_0).view.readAt (Elt F) (Rect.unit (s := S2x128x4x64) ![1, 0, 3, 0] S1x128x1x64.size inb_S2x128x4x64_S1x128x1x64_1_0_3_0).toLoadRect a.k
def ldV00 (a : Args F) : Vec F S1x128x1x64 .bf16 :=
  (Memref.whole cc0_stg3_0).view.readAt (Elt F) (Rect.unit (s := S2x128x4x64) ![0, 0, 0, 0] S1x128x1x64.size inb_S2x128x4x64_S1x128x1x64_0_0_0_0).toLoadRect a.v
def ldV01 (a : Args F) : Vec F S1x128x1x64 .bf16 :=
  (Memref.whole cc0_stg3_0).view.readAt (Elt F) (Rect.unit (s := S2x128x4x64) ![0, 0, 1, 0] S1x128x1x64.size inb_S2x128x4x64_S1x128x1x64_0_0_1_0).toLoadRect a.v
def ldV02 (a : Args F) : Vec F S1x128x1x64 .bf16 :=
  (Memref.whole cc0_stg3_0).view.readAt (Elt F) (Rect.unit (s := S2x128x4x64) ![0, 0, 2, 0] S1x128x1x64.size inb_S2x128x4x64_S1x128x1x64_0_0_2_0).toLoadRect a.v
def ldV03 (a : Args F) : Vec F S1x128x1x64 .bf16 :=
  (Memref.whole cc0_stg3_0).view.readAt (Elt F) (Rect.unit (s := S2x128x4x64) ![0, 0, 3, 0] S1x128x1x64.size inb_S2x128x4x64_S1x128x1x64_0_0_3_0).toLoadRect a.v
def ldV10 (a : Args F) : Vec F S1x128x1x64 .bf16 :=
  (Memref.whole cc0_stg3_0).view.readAt (Elt F) (Rect.unit (s := S2x128x4x64) ![1, 0, 0, 0] S1x128x1x64.size inb_S2x128x4x64_S1x128x1x64_1_0_0_0).toLoadRect a.v
def ldV11 (a : Args F) : Vec F S1x128x1x64 .bf16 :=
  (Memref.whole cc0_stg3_0).view.readAt (Elt F) (Rect.unit (s := S2x128x4x64) ![1, 0, 1, 0] S1x128x1x64.size inb_S2x128x4x64_S1x128x1x64_1_0_1_0).toLoadRect a.v
def ldV12 (a : Args F) : Vec F S1x128x1x64 .bf16 :=
  (Memref.whole cc0_stg3_0).view.readAt (Elt F) (Rect.unit (s := S2x128x4x64) ![1, 0, 2, 0] S1x128x1x64.size inb_S2x128x4x64_S1x128x1x64_1_0_2_0).toLoadRect a.v
def ldV13 (a : Args F) : Vec F S1x128x1x64 .bf16 :=
  (Memref.whole cc0_stg3_0).view.readAt (Elt F) (Rect.unit (s := S2x128x4x64) ![1, 0, 3, 0] S1x128x1x64.size inb_S2x128x4x64_S1x128x1x64_1_0_3_0).toLoadRect a.v
def ldWo (a : Args F) : Vec F S256x512 .bf16 :=
  (Memref.whole cc0_stg4_0).view.readAt (Elt F) (Rect.unit (s := S256x512) ![0, 0] S256x512.size inb_S256x512_S256x512_0_0).toLoadRect a.wo
def ldWq (a : Args F) : Vec F S512x256 .bf16 :=
  (Memref.whole cc0_stg1_0).view.readAt (Elt F) (Rect.unit (s := S512x256) ![0, 0] S512x256.size inb_S512x256_S512x256_0_0).toLoadRect a.wq
def ldX0 (a : Args F) : Vec F S1x128x512 .bf16 :=
  (Memref.whole cc0_stg0_0).view.readAt (Elt F) (Rect.unit (s := S2x128x512) ![0, 0, 0] S1x128x512.size inb_S2x128x512_S1x128x512_0_0_0).toLoadRect a.x
def ldX1 (a : Args F) : Vec F S1x128x512 .bf16 :=
  (Memref.whole cc0_stg0_0).view.readAt (Elt F) (Rect.unit (s := S2x128x512) ![1, 0, 0] S1x128x512.size inb_S2x128x512_S1x128x512_1_0_0).toLoadRect a.x

/-! ## The mask -/

def v2 (a : Args F) : BitVec 32 := Scalar.remsi (Scalar.divsi (Dev.word a.c) 1#32) 8#32
def v3 (a : Args F) : BitVec 32 := Scalar.xori (v2 a) 1#32
def v4 (a : Args F) : BitVec 32 := Scalar.xori (v2 a) 2#32
def v5 (a : Args F) : BitVec 32 := Scalar.xori (v2 a) 4#32
def v15 (a : Args F) : IVec S128x128 32 := k0_pay2
def v29 (a : Args F) : IVec S128x128 1 := k0_pay3
def v31 (a : Args F) : IVec S128x128 32 := k0_pay4
def v32 (a : Args F) : IVec S128x128 32 := k0_pay5

/-! ## Local attention, one (batch row, head) pair after another -/

def v75 (a : Args F) : IVec S128x128 1 := k0_pay6 (v2 a) (v15 a) (v29 a) (v31 a) (v32 a)
def v77 (a : Args F) : FVec F S128x512 .bf16 := k0_pay7 (ldX0 a)
def cst_53 (a : Args F) : F .f32 := Scalar.ofBits .f32 0xCE6E6B28#32
def v80 (a : Args F) : FVec F S128x256 .f32 := k0_pay8 (v77 a) (ldWq a)
def v93 (a : Args F) : FVec F S128x1 .f32 := k0_pay10 (v75 a) (v77 a) (ldWq a) (ldK00 a)
def v98 (a : Args F) : FVec F S128x1 .f32 := k0_pay12 (v75 a) (v77 a) (ldWq a) (ldK00 a)
def v100 (a : Args F) : FVec F S128x64 .f32 := k0_pay13 (v75 a) (v77 a) (ldWq a) (ldK00 a) (ldV00 a)
def v106 (a : Args F) : FVec F S128x64 .bf16 := k0_pay14 (ldV01 a)
def v109 (a : Args F) : FVec F S128x128 .f32 := k0_pay15 (v77 a) (ldWq a) (ldK01 a)
def v113 (a : Args F) : FVec F S128x1 .f32 := k0_pay17 (v75 a) (v109 a) (cst_53 a)
def v118 (a : Args F) : FVec F S128x1 .f32 := k0_pay19 (v75 a) (v109 a) (cst_53 a)
def v120 (a : Args F) : FVec F S128x64 .f32 := k0_pay20 (v75 a) (v106 a) (v109 a) (cst_53 a)
def v133 (a : Args F) : FVec F S128x1 .f32 := k0_pay22 (v75 a) (v80 a) (ldK02 a)
def v138 (a : Args F) : FVec F S128x1 .f32 := k0_pay24 (v75 a) (v80 a) (ldK02 a)
def v140 (a : Args F) : FVec F S128x64 .f32 := k0_pay25 (v75 a) (v80 a) (ldK02 a) (ldV02 a)
def v142 (a : Args F) : FVec F S128x64 .bf16 := k0_pay26 (v80 a)
def v144 (a : Args F) : FVec F S128x64 .bf16 := k0_pay27 (ldK03 a)
def v153 (a : Args F) : FVec F S128x1 .f32 := k0_pay29 (v75 a) (v142 a) (v144 a)
def v158 (a : Args F) : FVec F S128x1 .f32 := k0_pay31 (v75 a) (v142 a) (v144 a)
def v160 (a : Args F) : FVec F S128x64 .f32 := k0_pay32 (v75 a) (v142 a) (v144 a) (ldV03 a)
def v165 (a : Args F) : FVec F S128x256 .f32 := k0_pay33 (ldX1 a) (ldWq a)
def v171 (a : Args F) : FVec F S128x64 .bf16 := k0_pay34 (ldV10 a)
def v178 (a : Args F) : FVec F S128x1 .f32 := k0_pay36 (v75 a) (ldX1 a) (ldWq a) (ldK10 a)
def v180 (a : Args F) : FVec F S128x128 .f32 := k0_pay37 (v75 a) (ldX1 a) (ldWq a) (ldK10 a)
def v183 (a : Args F) : FVec F S128x1 .f32 := k0_pay39 (v180 a)
def v185 (a : Args F) : FVec F S128x64 .f32 := k0_pay40 (v171 a) (v180 a)
def v198 (a : Args F) : FVec F S128x1 .f32 := k0_pay42 (v75 a) (v165 a) (ldK11 a)
def v203 (a : Args F) : FVec F S128x1 .f32 := k0_pay44 (v75 a) (v165 a) (ldK11 a)
def v205 (a : Args F) : FVec F S128x64 .f32 := k0_pay45 (v75 a) (v165 a) (ldK11 a) (ldV11 a)
def v211 (a : Args F) : FVec F S128x64 .bf16 := k0_pay46 (ldV12 a)
def v214 (a : Args F) : FVec F S128x128 .f32 := k0_pay47 (v165 a) (ldK12 a)
def v218 (a : Args F) : FVec F S128x1 .f32 := k0_pay49 (v75 a) (v214 a)
def v223 (a : Args F) : FVec F S128x1 .f32 := k0_pay51 (v75 a) (v214 a)
def v225 (a : Args F) : FVec F S128x64 .f32 := k0_pay52 (v75 a) (v211 a) (v214 a)
def v238 (a : Args F) : FVec F S128x1 .f32 := k0_pay54 (v75 a) (v165 a) (ldK13 a)
def v243 (a : Args F) : FVec F S128x1 .f32 := k0_pay56 (v75 a) (v165 a) (ldK13 a)
def v245 (a : Args F) : FVec F S128x64 .f32 := k0_pay57 (v75 a) (v165 a) (ldK13 a) (ldV13 a)
def v251 (a : Args F) : FVec F S128x128 .f32 := k0_pay58 (v75 a) (v93 a) (v98 a) (v113 a) (v118 a) (v133 a) (v138 a) (v153 a) (v158 a) (v165 a) (v178 a) (v183 a) (v198 a) (v203 a) (v214 a) (ldK13 a)
def v252 (a : Args F) : FVec F S1x128x128 .f32 := k0_pay59 (v100 a) (v120 a)
def v253 (a : Args F) : FVec F S1x128x128 .f32 := k0_pay60 (v140 a) (v160 a)
def v254 (a : Args F) : FVec F S1x128x128 .f32 := k0_pay61 (v185 a) (v205 a)
def v255 (a : Args F) : FVec F S1x128x128 .f32 := k0_pay62 (v75 a) (v165 a) (v211 a) (v214 a) (ldK13 a) (ldV13 a)
def packed0 (a : Args F) : FVec F S1x5x128x128 .bf16 :=
  k0_pay63 (v251 a) (v252 a) (v253 a) (v254 a) (v255 a)

/-! ## After the first exchange -/

def v288 (a : Args F) (P0 : Pack F) : FVec F S128x128 .f32 := k0_pay64 (tile 4 P0)
def v295 (a : Args F) (P0 : Pack F) : FVec F S128x1 .f32 := k0_pay66 (v93 a) (tile 4 P0)
def v302 (a : Args F) (P0 : Pack F) : FVec F S128x1 .f32 := k0_pay69 (v93 a) (v98 a) (tile 4 P0)
def v307 (a : Args F) (P0 : Pack F) : FVec F S128x64 .f32 := k0_pay70 (v93 a) (v100 a) (tile 4 P0) (tile 0 P0)
def v311 (a : Args F) (P0 : Pack F) : FVec F S128x64 .f32 := k0_pay71 (tile 0 P0)
def v314 (a : Args F) (P0 : Pack F) : FVec F S128x1 .f32 := k0_pay73 (v113 a) (tile 4 P0)
def v316 (a : Args F) (P0 : Pack F) : FVec F S128x1 .f32 := k0_pay74 (v113 a) (tile 4 P0)
def v318 (a : Args F) (P0 : Pack F) : FVec F S128x1 .f32 := k0_pay75 (v113 a) (tile 4 P0)
def v319 (a : Args F) (P0 : Pack F) : FVec F S128x1 .f32 := k0_pay76 (v113 a) (v118 a) (tile 4 P0)
def v320 (a : Args F) (P0 : Pack F) : FVec F S128x1 .f32 := k0_pay77 (v113 a) (tile 4 P0)
def v321 (a : Args F) (P0 : Pack F) : FVec F S128x1 .f32 := k0_pay78 (v319 a P0) (v320 a P0)
def v326 (a : Args F) (P0 : Pack F) : FVec F S128x64 .f32 := k0_pay79 (v120 a) (v311 a P0) (v316 a P0) (v318 a P0)
def v333 (a : Args F) (P0 : Pack F) : FVec F S128x1 .f32 := k0_pay81 (v133 a) (v288 a P0)
def v340 (a : Args F) (P0 : Pack F) : FVec F S128x1 .f32 := k0_pay84 (v133 a) (v138 a) (v288 a P0)
def v345 (a : Args F) (P0 : Pack F) : FVec F S128x64 .f32 := k0_pay85 (v133 a) (v140 a) (v288 a P0) (tile 1 P0)
def v352 (a : Args F) (P0 : Pack F) : FVec F S128x1 .f32 := k0_pay87 (v153 a) (v288 a P0)
def v359 (a : Args F) (P0 : Pack F) : FVec F S128x1 .f32 := k0_pay90 (v153 a) (v158 a) (v288 a P0)
def v364 (a : Args F) (P0 : Pack F) : FVec F S128x64 .f32 := k0_pay91 (v153 a) (v160 a) (v288 a P0) (tile 1 P0)
def v368 (a : Args F) (P0 : Pack F) : FVec F S128x64 .f32 := k0_pay92 (tile 2 P0)
def v371 (a : Args F) (P0 : Pack F) : FVec F S128x1 .f32 := k0_pay94 (v178 a) (v288 a P0)
def v378 (a : Args F) (P0 : Pack F) : FVec F S128x1 .f32 := k0_pay97 (v178 a) (v183 a) (v288 a P0)
def v383 (a : Args F) (P0 : Pack F) : FVec F S128x64 .f32 := k0_pay98 (v178 a) (v185 a) (v288 a P0) (v368 a P0)
def v390 (a : Args F) (P0 : Pack F) : FVec F S128x1 .f32 := k0_pay100 (v198 a) (v288 a P0)
def v397 (a : Args F) (P0 : Pack F) : FVec F S128x1 .f32 := k0_pay103 (v198 a) (v203 a) (v288 a P0)
def v402 (a : Args F) (P0 : Pack F) : FVec F S128x64 .f32 := k0_pay104 (v198 a) (v205 a) (v288 a P0) (tile 2 P0)
def v409 (a : Args F) (P0 : Pack F) : FVec F S128x1 .f32 := k0_pay106 (v218 a) (v288 a P0)
def v416 (a : Args F) (P0 : Pack F) : FVec F S128x1 .f32 := k0_pay109 (v218 a) (v223 a) (v288 a P0)
def v418 (a : Args F) (P0 : Pack F) : FVec F S128x64 .f32 := k0_pay110 (v218 a) (v225 a) (v288 a P0)
def v420 (a : Args F) (P0 : Pack F) : FVec F S128x64 .f32 := k0_pay111 (v218 a) (v288 a P0) (tile 3 P0)
def v421 (a : Args F) (P0 : Pack F) : FVec F S128x64 .f32 := k0_pay112 (v418 a P0) (v420 a P0)
def v428 (a : Args F) (P0 : Pack F) : FVec F S128x1 .f32 := k0_pay114 (v238 a) (v288 a P0)
def v435 (a : Args F) (P0 : Pack F) : FVec F S128x1 .f32 := k0_pay117 (v238 a) (v243 a) (v288 a P0)
def v440 (a : Args F) (P0 : Pack F) : FVec F S128x64 .f32 := k0_pay118 (v238 a) (v245 a) (v288 a P0) (tile 3 P0)
def packed1 (a : Args F) (P0 : Pack F) : FVec F S1x5x128x128 .bf16 :=
  k0_pay119 (v238 a) (v243 a) (v245 a) (v288 a P0) (v295 a P0) (v302 a P0) (v307 a P0) (v314 a P0) (v321 a P0) (v326 a P0) (v333 a P0) (v340 a P0) (v345 a P0) (v352 a P0) (v359 a P0) (v364 a P0) (v371 a P0) (v378 a P0) (v383 a P0) (v390 a P0) (v397 a P0) (v402 a P0) (v409 a P0) (v416 a P0) (v418 a P0) (v420 a P0) (tile 3 P0)

/-! ## After the second exchange -/

def v483 (a : Args F) (P0 P1 : Pack F) : FVec F S128x128 .f32 := k0_pay120 (tile 4 P1)
def v490 (a : Args F) (P0 P1 : Pack F) : FVec F S128x1 .f32 := k0_pay122 (v295 a P0) (v483 a P0 P1)
def v497 (a : Args F) (P0 P1 : Pack F) : FVec F S128x1 .f32 := k0_pay125 (v295 a P0) (v302 a P0) (v483 a P0 P1)
def v502 (a : Args F) (P0 P1 : Pack F) : FVec F S128x64 .f32 := k0_pay126 (v295 a P0) (v307 a P0) (v483 a P0 P1) (tile 0 P1)
def v509 (a : Args F) (P0 P1 : Pack F) : FVec F S128x1 .f32 := k0_pay128 (v314 a P0) (v483 a P0 P1)
def v516 (a : Args F) (P0 P1 : Pack F) : FVec F S128x1 .f32 := k0_pay131 (v314 a P0) (v321 a P0) (v483 a P0 P1)
def v521 (a : Args F) (P0 P1 : Pack F) : FVec F S128x64 .f32 := k0_pay132 (v314 a P0) (v326 a P0) (v483 a P0 P1) (tile 0 P1)
def v525 (a : Args F) (P0 P1 : Pack F) : FVec F S128x64 .f32 := k0_pay133 (tile 1 P1)
def v528 (a : Args F) (P0 P1 : Pack F) : FVec F S128x1 .f32 := k0_pay135 (v333 a P0) (v483 a P0 P1)
def v532 (a : Args F) (P0 P1 : Pack F) : FVec F S128x1 .f32 := k0_pay137 (v333 a P0) (v483 a P0 P1)
def v535 (a : Args F) (P0 P1 : Pack F) : FVec F S128x1 .f32 := k0_pay138 (v333 a P0) (v340 a P0) (v483 a P0 P1)
def v536 (a : Args F) (P0 P1 : Pack F) : FVec F S128x64 .f32 := k0_pay139 (v333 a P0) (v483 a P0 P1)
def v540 (a : Args F) (P0 P1 : Pack F) : FVec F S128x64 .f32 := k0_pay140 (v345 a P0) (v525 a P0 P1) (v532 a P0 P1) (v536 a P0 P1)
def v547 (a : Args F) (P0 P1 : Pack F) : FVec F S128x1 .f32 := k0_pay142 (v352 a P0) (v483 a P0 P1)
def v554 (a : Args F) (P0 P1 : Pack F) : FVec F S128x1 .f32 := k0_pay145 (v352 a P0) (v359 a P0) (v483 a P0 P1)
def v559 (a : Args F) (P0 P1 : Pack F) : FVec F S128x64 .f32 := k0_pay146 (v352 a P0) (v364 a P0) (v483 a P0 P1) (tile 1 P1)
def v566 (a : Args F) (P0 P1 : Pack F) : FVec F S128x1 .f32 := k0_pay148 (v371 a P0) (v483 a P0 P1)
def v573 (a : Args F) (P0 P1 : Pack F) : FVec F S128x1 .f32 := k0_pay151 (v371 a P0) (v378 a P0) (v483 a P0 P1)
def v578 (a : Args F) (P0 P1 : Pack F) : FVec F S128x64 .f32 := k0_pay152 (v371 a P0) (v383 a P0) (v483 a P0 P1) (tile 2 P1)
def v582 (a : Args F) (P0 P1 : Pack F) : FVec F S128x64 .f32 := k0_pay153 (tile 2 P1)
def v583 (a : Args F) (P0 P1 : Pack F) : FVec F S128x1 .f32 := k0_pay154 (v483 a P0 P1)
def v584 (a : Args F) (P0 P1 : Pack F) : FVec F S128x1 .f32 := k0_pay155 (v483 a P0 P1)
def v585 (a : Args F) (P0 P1 : Pack F) : FVec F S128x1 .f32 := k0_pay156 (v390 a P0) (v583 a P0 P1)
def v592 (a : Args F) (P0 P1 : Pack F) : FVec F S128x1 .f32 := k0_pay159 (v390 a P0) (v397 a P0) (v583 a P0 P1) (v584 a P0 P1)
def v597 (a : Args F) (P0 P1 : Pack F) : FVec F S128x64 .f32 := k0_pay160 (v390 a P0) (v402 a P0) (v582 a P0 P1) (v583 a P0 P1)
def v604 (a : Args F) (P0 P1 : Pack F) : FVec F S128x1 .f32 := k0_pay162 (v409 a P0) (v483 a P0 P1)
def v611 (a : Args F) (P0 P1 : Pack F) : FVec F S128x1 .f32 := k0_pay165 (v409 a P0) (v416 a P0) (v483 a P0 P1)
def v616 (a : Args F) (P0 P1 : Pack F) : FVec F S128x64 .f32 := k0_pay166 (v409 a P0) (v421 a P0) (v483 a P0 P1) (tile 3 P1)
def v623 (a : Args F) (P0 P1 : Pack F) : FVec F S128x1 .f32 := k0_pay168 (v428 a P0) (v483 a P0 P1)
def v630 (a : Args F) (P0 P1 : Pack F) : FVec F S128x1 .f32 := k0_pay171 (v428 a P0) (v435 a P0) (v483 a P0 P1)
def v635 (a : Args F) (P0 P1 : Pack F) : FVec F S128x64 .f32 := k0_pay172 (v428 a P0) (v440 a P0) (v483 a P0 P1) (tile 3 P1)
def v636 (a : Args F) (P0 P1 : Pack F) : FVec F S128x128 .f32 := k0_pay173 (v502 a P0 P1) (v521 a P0 P1)
def packed2 (a : Args F) (P0 P1 : Pack F) : FVec F S1x5x128x128 .bf16 :=
  k0_pay174 (v490 a P0 P1) (v497 a P0 P1) (v509 a P0 P1) (v516 a P0 P1) (v528 a P0 P1) (v535 a P0 P1) (v540 a P0 P1) (v547 a P0 P1) (v554 a P0 P1) (v559 a P0 P1) (v566 a P0 P1) (v573 a P0 P1) (v578 a P0 P1) (v585 a P0 P1) (v592 a P0 P1) (v597 a P0 P1) (v604 a P0 P1) (v611 a P0 P1) (v616 a P0 P1) (v623 a P0 P1) (v630 a P0 P1) (v635 a P0 P1) (v636 a P0 P1)

/-! ## After the third exchange -/

def v678 (a : Args F) (P0 P1 P2 : Pack F) : FVec F S128x128 .f32 := k0_pay175 (tile 4 P2)
def v692 (a : Args F) (P0 P1 P2 : Pack F) : FVec F S128x1 .f32 := k0_pay180 (v490 a P0 P1) (v497 a P0 P1) (tile 4 P2)
def v697 (a : Args F) (P0 P1 P2 : Pack F) : FVec F S128x64 .f32 := k0_pay181 (v490 a P0 P1) (v502 a P0 P1) (tile 4 P2) (tile 0 P2)
def v700 (a : Args F) (P0 P1 P2 : Pack F) : FVec F S128x128 .f32 := k0_pay182 (tile 0 P2)
def v711 (a : Args F) (P0 P1 P2 : Pack F) : FVec F S128x1 .f32 := k0_pay187 (v509 a P0 P1) (v516 a P0 P1) (v678 a P0 P1 P2)
def v716 (a : Args F) (P0 P1 P2 : Pack F) : FVec F S128x64 .f32 := k0_pay188 (v509 a P0 P1) (v521 a P0 P1) (v678 a P0 P1 P2) (v700 a P0 P1 P2)
def v730 (a : Args F) (P0 P1 P2 : Pack F) : FVec F S128x1 .f32 := k0_pay193 (v528 a P0 P1) (v535 a P0 P1) (v678 a P0 P1 P2)
def v735 (a : Args F) (P0 P1 P2 : Pack F) : FVec F S128x64 .f32 := k0_pay194 (v528 a P0 P1) (v540 a P0 P1) (v678 a P0 P1 P2) (tile 1 P2)
def v739 (a : Args F) (P0 P1 P2 : Pack F) : FVec F S128x64 .f32 := k0_pay195 (tile 1 P2)
def v749 (a : Args F) (P0 P1 P2 : Pack F) : FVec F S128x1 .f32 := k0_pay200 (v547 a P0 P1) (v554 a P0 P1) (v678 a P0 P1 P2)
def v751 (a : Args F) (P0 P1 P2 : Pack F) : FVec F S128x64 .f32 := k0_pay201 (v547 a P0 P1) (v559 a P0 P1) (v678 a P0 P1 P2)
def v752 (a : Args F) (P0 P1 P2 : Pack F) : FVec F S128x64 .f32 := k0_pay202 (v547 a P0 P1) (v678 a P0 P1 P2)
def v754 (a : Args F) (P0 P1 P2 : Pack F) : FVec F S128x64 .f32 := k0_pay203 (v739 a P0 P1 P2) (v751 a P0 P1 P2) (v752 a P0 P1 P2)
def v768 (a : Args F) (P0 P1 P2 : Pack F) : FVec F S128x1 .f32 := k0_pay208 (v566 a P0 P1) (v573 a P0 P1) (v678 a P0 P1 P2)
def v773 (a : Args F) (P0 P1 P2 : Pack F) : FVec F S128x64 .f32 := k0_pay209 (v566 a P0 P1) (v578 a P0 P1) (v678 a P0 P1 P2) (tile 2 P2)
def v787 (a : Args F) (P0 P1 P2 : Pack F) : FVec F S128x1 .f32 := k0_pay214 (v585 a P0 P1) (v592 a P0 P1) (v678 a P0 P1 P2)
def v792 (a : Args F) (P0 P1 P2 : Pack F) : FVec F S128x64 .f32 := k0_pay215 (v585 a P0 P1) (v597 a P0 P1) (v678 a P0 P1 P2) (tile 2 P2)
def v796 (a : Args F) (P0 P1 P2 : Pack F) : FVec F S128x64 .f32 := k0_pay216 (tile 3 P2)
def v797 (a : Args F) (P0 P1 P2 : Pack F) : FVec F S128x1 .f32 := k0_pay217 (v678 a P0 P1 P2)
def v798 (a : Args F) (P0 P1 P2 : Pack F) : FVec F S128x1 .f32 := k0_pay218 (v678 a P0 P1 P2)
def v799 (a : Args F) (P0 P1 P2 : Pack F) : FVec F S128x1 .f32 := k0_pay219 (v604 a P0 P1) (v678 a P0 P1 P2)
def v800 (a : Args F) (P0 P1 P2 : Pack F) : FVec F S128x1 .f32 := k0_pay220 (v604 a P0 P1) (v678 a P0 P1 P2)
def v806 (a : Args F) (P0 P1 P2 : Pack F) : FVec F S128x1 .f32 := k0_pay223 (v611 a P0 P1) (v797 a P0 P1 P2) (v798 a P0 P1 P2) (v799 a P0 P1 P2) (v800 a P0 P1 P2)
def v811 (a : Args F) (P0 P1 P2 : Pack F) : FVec F S128x64 .f32 := k0_pay224 (v616 a P0 P1) (v796 a P0 P1 P2) (v797 a P0 P1 P2) (v799 a P0 P1 P2) (v800 a P0 P1 P2)
def v825 (a : Args F) (P0 P1 P2 : Pack F) : FVec F S128x1 .f32 := k0_pay229 (v623 a P0 P1) (v630 a P0 P1) (v678 a P0 P1 P2)
def v830 (a : Args F) (P0 P1 P2 : Pack F) : FVec F S128x64 .f32 := k0_pay230 (v623 a P0 P1) (v635 a P0 P1) (v678 a P0 P1 P2) (tile 3 P2)
def v832 (a : Args F) (P0 P1 P2 : Pack F) : FVec F S256x512 .bf16 := k0_pay231 (ldWo a)
def v848 (a : Args F) (P0 P1 P2 : Pack F) : FVec F S128x64 .f32 := k0_pay233 (v768 a P0 P1 P2) (v773 a P0 P1 P2)
def v849 (a : Args F) (P0 P1 P2 : Pack F) : FVec F S128x64 .f32 := k0_pay234 (v787 a P0 P1 P2)
def out0 (a : Args F) (P0 P1 P2 : Pack F) : FVec F S1x128x512 .f32 :=
  k0_pay232 (v692 a P0 P1 P2) (v697 a P0 P1 P2) (v711 a P0 P1 P2) (v716 a P0 P1 P2) (v730 a P0 P1 P2) (v735 a P0 P1 P2) (v749 a P0 P1 P2) (v754 a P0 P1 P2) (ldWo a)
def out1 (a : Args F) (P0 P1 P2 : Pack F) : FVec F S1x128x512 .f32 :=
  k0_pay1 (v792 a P0 P1 P2) (v806 a P0 P1 P2) (v811 a P0 P1 P2) (v825 a P0 P1 P2) (v830 a P0 P1 P2) (v832 a P0 P1 P2) (v848 a P0 P1 P2) (v849 a P0 P1 P2)

/-! ## The blocks that are sent, and the result -/

/-- The block sent in the first exchange. -/
def snd0 (a : Args F) : Pack F := flat (packed0 a)
/-- The block sent in the second exchange. -/
def snd1 (a : Args F) (P0 : Pack F) : Pack F := flat (packed1 a P0)
/-- The block sent in the third exchange. -/
def snd2 (a : Args F) (P0 P1 : Pack F) : Pack F := flat (packed2 a P0 P1)

end Cert.KernelIdeal.Attn

end
-- ==== Proof.Heads.lean ====
/-
# The kernel's values, head by head

The eight (batch row, head) pairs go through one and the same arithmetic: local attention over the device's keys, three
merges with what the partners sent, and the quotient. Here that arithmetic is written once per stage (`locM`, `locL`, `locO`;
`mrgM`, `mrgL`, `mrgO`; `mkPack`, `unM`, `unL`, `unO`; `mkOut`) and the named values of the printed kernel are shown to be its
instances. Everything holds for any float values `F`, by unfolding.
-/
module

public import proofs.«01_k».proof.Proof.Values

@[expose] public section

set_option maxRecDepth 100000

noncomputable section

namespace Cert.KernelIdeal.Attn

open Cert.KernelIdeal Cert.KernelIdeal.Gen
open Idealize.ShloMosaic

variable {F : FTy → Type} [FloatOps F]

/-! ## One head's arithmetic -/

/-- The queries of a batch row, all heads side by side. -/
def qmat (x : Vec F S1x128x512 .bf16) (wq : Vec F S512x256 .bf16) : FVec F S128x256 .f32 :=
  matmul dot_S128x512_S512x256_S128x256_1_0_0_1_n_n none (shapeCast S128x512 x shapeCasts_S1x128x512_S128x512)
    (shapeCast S512x256 wq shapeCasts_S512x256_S512x256) (constant S128x256 .f32 0x00000000#32)

theorem slices_head (h : Fin 8) : S128x256.Slices ![0, 64 * (h.val % 4)] S128x64 := by revert h; decide

/-- The masked scores of one head. -/
def locS (mask : IVec S128x128 1) (q : FVec F S128x256 .f32) (h : Fin 8) (k : Vec F S1x128x1x64 .bf16) : FVec F S128x128 .f32 :=
  select mask
    (mulf (matmul dot_S128x64_S128x64_S128x128_1_1_0_0_n_n none
        (truncf .bf16 (extractStridedSlice S128x64 ![0, 64 * (h.val % 4)] q (slices_head h)) bitsLt_bf16_f32)
        (shapeCast S128x64 k shapeCasts_S1x128x1x64_S128x64) (constant S128x128 .f32 0x00000000#32))
      (broadcast S128x128 (Scalar.ofBits .f32 0x3E000000#32)))
    (broadcast S128x128 (Scalar.ofBits .f32 0xCE6E6B28#32))

/-- Each row's largest score. -/
def locM (s : FVec F S128x128 .f32) : FVec F S128x1 .f32 :=
  shapeCast S128x1 (multiReduction .maximumf [1] S128 s 0xFF800000#32 reduces_S128x128_S128 (.inl rfl) rfl) shapeCasts_S128_S128x1
/-- The exponentials of the shifted scores. -/
def locE (s : FVec F S128x128 .f32) : FVec F S128x128 .f32 :=
  exp (subf s (broadcastTo S128x128 (locM s) broadcasts_S128x1_S128x128))
/-- Each row's sum of them. -/
def locL (s : FVec F S128x128 .f32) : FVec F S128x1 .f32 :=
  shapeCast S128x1 (multiReduction .add [1] S128 (locE s) 0x00000000#32 reduces_S128x128_S128 (.inl rfl) rfl) shapeCasts_S128_S128x1
/-- The values weighted by them. -/
def locO (s : FVec F S128x128 .f32) (v : Vec F S1x128x1x64 .bf16) : FVec F S128x64 .f32 :=
  matmul dot_S128x128_S128x64_S128x64_1_0_0_1_n_n none (truncf .bf16 (locE s) bitsLt_bf16_f32)
    (shapeCast S128x64 v shapeCasts_S1x128x1x64_S128x64) (constant S128x64 .f32 0x00000000#32)

/-- The merged maximum, -/
def mrgM (m m' : FVec F S128x1 .f32) : FVec F S128x1 .f32 := maximumf m m'
/-- the merged sum, -/
def mrgL (m l m' l' : FVec F S128x1 .f32) : FVec F S128x1 .f32 :=
  addf (mulf l (exp (subf m (mrgM m m')))) (mulf l' (exp (subf m' (mrgM m m'))))
/-- and the merged accumulator. -/
def mrgO (m : FVec F S128x1 .f32) (o : FVec F S128x64 .f32) (m' : FVec F S128x1 .f32) (o' : FVec F S128x64 .f32) : FVec F S128x64 .f32 :=
  addf (mulf o (broadcastTo S128x64 (exp (subf m (mrgM m m'))) broadcasts_S128x1_S128x64))
    (mulf o' (broadcastTo S128x64 (exp (subf m' (mrgM m m'))) broadcasts_S128x1_S128x64))

/-! ## The block that travels -/

/-- The tile of the maxima and sums. -/
def mkStat (m l : Fin 8 → FVec F S128x1 .f32) : FVec F S128x128 .f32 :=
  concatenate S128x128 1 [⟨S128x1, m 0⟩, ⟨S128x1, l 0⟩, ⟨S128x1, m 1⟩, ⟨S128x1, l 1⟩, ⟨S128x1, m 2⟩, ⟨S128x1, l 2⟩, ⟨S128x1, m 3⟩, ⟨S128x1, l 3⟩, ⟨S128x1, m 4⟩, ⟨S128x1, l 4⟩, ⟨S128x1, m 5⟩, ⟨S128x1, l 5⟩, ⟨S128x1, m 6⟩, ⟨S128x1, l 6⟩, ⟨S128x1, m 7⟩, ⟨S128x1, l 7⟩, ⟨S128x112, broadcast S128x112 (Scalar.ofBits .f32 0x00000000#32)⟩]
    concatenates_S128x1_S128x1_S128x1_S128x1_S128x1_S128x1_S128x1_S128x1_S128x1_S128x1_S128x1_S128x1_S128x1_S128x1_S128x1_S128x1_S128x112_S128x128_d1
/-- The tile of two heads' accumulators. -/
def mkPair (o o' : FVec F S128x64 .f32) : FVec F S1x128x128 .f32 :=
  shapeCast S1x128x128 (concatenate S128x128 1 [⟨S128x64, o⟩, ⟨S128x64, o'⟩] concatenates_S128x64_S128x64_S128x128_d1)
    shapeCasts_S128x128_S1x128x128
/-- The five tiles. -/
def mkPack (o : Fin 8 → FVec F S128x64 .f32) (m l : Fin 8 → FVec F S128x1 .f32) : FVec F S1x5x128x128 .bf16 :=
  shapeCast S1x5x128x128 (truncf .bf16 (concatenate S5x128x128 0
      [⟨S1x128x128, mkPair (o 0) (o 1)⟩, ⟨S1x128x128, mkPair (o 2) (o 3)⟩, ⟨S1x128x128, mkPair (o 4) (o 5)⟩,
        ⟨S1x128x128, mkPair (o 6) (o 7)⟩, ⟨S1x128x128, shapeCast S1x128x128 (mkStat m l) shapeCasts_S128x128_S1x128x128⟩]
      concatenates_S1x128x128_S1x128x128_S1x128x128_S1x128x128_S1x128x128_S5x128x128_d0) bitsLt_bf16_f32) shapeCasts_S5x128x128_S1x5x128x128

theorem slices_m (h : Fin 8) : S128x128.Slices ![0, 2 * h.val] S128x1 := by revert h; decide
theorem slices_l (h : Fin 8) : S128x128.Slices ![0, 2 * h.val + 1] S128x1 := by revert h; decide
theorem slices_o (h : Fin 8) : S128x128.Slices ![0, 64 * (h.val % 2)] S128x64 := by revert h; decide

/-- A received tile, as numbers. -/
def untile (t : Fin 5) (P : Pack F) : FVec F S128x128 .f32 :=
  extf .f32 (shapeCast S128x128 (tile t P) shapeCasts_S1x1x128x128_S128x128) bitsLt_bf16_f32
/-- A head's maximum in a received block, -/
def unM (P : Pack F) (h : Fin 8) : FVec F S128x1 .f32 := extractStridedSlice S128x1 ![0, 2 * h.val] (untile 4 P) (slices_m h)
/-- its sum, -/
def unL (P : Pack F) (h : Fin 8) : FVec F S128x1 .f32 := extractStridedSlice S128x1 ![0, 2 * h.val + 1] (untile 4 P) (slices_l h)
/-- and its accumulator. -/
def unO (P : Pack F) (h : Fin 8) : FVec F S128x64 .f32 :=
  extractStridedSlice S128x64 ![0, 64 * (h.val % 2)] (untile ⟨h.val / 2, by omega⟩ P) (slices_o h)

/-- A batch row of the result: the quotients of its four heads, times the output weights. -/
def mkOut (o : Fin 4 → FVec F S128x64 .f32) (l : Fin 4 → FVec F S128x1 .f32) (wo : Vec F S256x512 .bf16) : FVec F S1x128x512 .f32 :=
  shapeCast S1x128x512 (matmul dot_S128x256_S256x512_S128x512_1_0_0_1_n_n none
    (truncf .bf16 (concatenate S128x256 1
      [⟨S128x64, divf (o 0) (broadcastTo S128x64 (l 0) broadcasts_S128x1_S128x64)⟩,
        ⟨S128x64, divf (o 1) (broadcastTo S128x64 (l 1) broadcasts_S128x1_S128x64)⟩,
        ⟨S128x64, divf (o 2) (broadcastTo S128x64 (l 2) broadcasts_S128x1_S128x64)⟩,
        ⟨S128x64, divf (o 3) (broadcastTo S128x64 (l 3) broadcasts_S128x1_S128x64)⟩]
      concatenates_S128x64_S128x64_S128x64_S128x64_S128x256_d1) bitsLt_bf16_f32)
    (shapeCast S256x512 wo shapeCasts_S256x512_S256x512) (constant S128x512 .f32 0x00000000#32)) shapeCasts_S128x512_S1x128x512

/-! ## The named values, by head -/

/-- The queries, by batch row. -/
def QB (a : Args F) : Fin 2 → FVec F S128x256 .f32 := ![v80 a, v165 a]
/-- The keys, by head. -/
def LK (a : Args F) : Fin 8 → Vec F S1x128x1x64 .bf16 := ![ldK00 a, ldK01 a, ldK02 a, ldK03 a, ldK10 a, ldK11 a, ldK12 a, ldK13 a]
/-- The values, by head. -/
def LV (a : Args F) : Fin 8 → Vec F S1x128x1x64 .bf16 := ![ldV00 a, ldV01 a, ldV02 a, ldV03 a, ldV10 a, ldV11 a, ldV12 a, ldV13 a]
/-- The maxima locally, by head. -/
def M0 (a : Args F) : Fin 8 → FVec F S128x1 .f32 := ![v93 a, v113 a, v133 a, v153 a, v178 a, v198 a, v218 a, v238 a]
/-- The sums locally, by head. -/
def L0 (a : Args F) : Fin 8 → FVec F S128x1 .f32 := ![v98 a, v118 a, v138 a, v158 a, v183 a, v203 a, v223 a, v243 a]
/-- The accumulators locally, by head. -/
def O0 (a : Args F) : Fin 8 → FVec F S128x64 .f32 := ![v100 a, v120 a, v140 a, v160 a, v185 a, v205 a, v225 a, v245 a]
/-- The maxima after the first exchange, by head. -/
def M1 (a : Args F) (P0 : Pack F) : Fin 8 → FVec F S128x1 .f32 := ![v295 a P0, v314 a P0, v333 a P0, v352 a P0, v371 a P0, v390 a P0, v409 a P0, v428 a P0]
/-- The sums after the first exchange, by head. -/
def L1 (a : Args F) (P0 : Pack F) : Fin 8 → FVec F S128x1 .f32 := ![v302 a P0, v321 a P0, v340 a P0, v359 a P0, v378 a P0, v397 a P0, v416 a P0, v435 a P0]
/-- The accumulators after the first exchange, by head. -/
def O1 (a : Args F) (P0 : Pack F) : Fin 8 → FVec F S128x64 .f32 := ![v307 a P0, v326 a P0, v345 a P0, v364 a P0, v383 a P0, v402 a P0, v421 a P0, v440 a P0]
/-- The maxima after the second, by head. -/
def M2 (a : Args F) (P0 P1 : Pack F) : Fin 8 → FVec F S128x1 .f32 := ![v490 a P0 P1, v509 a P0 P1, v528 a P0 P1, v547 a P0 P1, v566 a P0 P1, v585 a P0 P1, v604 a P0 P1, v623 a P0 P1]
/-- The sums after the second, by head. -/
def L2 (a : Args F) (P0 P1 : Pack F) : Fin 8 → FVec F S128x1 .f32 := ![v497 a P0 P1, v516 a P0 P1, v535 a P0 P1, v554 a P0 P1, v573 a P0 P1, v592 a P0 P1, v611 a P0 P1, v630 a P0 P1]
/-- The accumulators after the second, by head. -/
def O2 (a : Args F) (P0 P1 : Pack F) : Fin 8 → FVec F S128x64 .f32 := ![v502 a P0 P1, v521 a P0 P1, v540 a P0 P1, v559 a P0 P1, v578 a P0 P1, v597 a P0 P1, v616 a P0 P1, v635 a P0 P1]
/-- The sums after the third, by head. -/
def L3 (a : Args F) (P0 P1 P2 : Pack F) : Fin 8 → FVec F S128x1 .f32 := ![v692 a P0 P1 P2, v711 a P0 P1 P2, v730 a P0 P1 P2, v749 a P0 P1 P2, v768 a P0 P1 P2, v787 a P0 P1 P2, v806 a P0 P1 P2, v825 a P0 P1 P2]
/-- The accumulators after the third, by head. -/
def O3 (a : Args F) (P0 P1 P2 : Pack F) : Fin 8 → FVec F S128x64 .f32 := ![v697 a P0 P1 P2, v716 a P0 P1 P2, v735 a P0 P1 P2, v754 a P0 P1 P2, v773 a P0 P1 P2, v792 a P0 P1 P2, v811 a P0 P1 P2, v830 a P0 P1 P2]

/-- The masked scores of a head. -/
def SC (a : Args F) (h : Fin 8) : FVec F S128x128 .f32 := locS (v75 a) (QB a ⟨h.val / 4, by omega⟩) h (LK a h)

theorem QB_eq0 (a : Args F) : QB a 0 = qmat (ldX0 a) (ldWq a) := rfl
theorem QB_eq1 (a : Args F) : QB a 1 = qmat (ldX1 a) (ldWq a) := rfl
/-- The local maxima. -/
theorem M0_eq (a : Args F) (h : Fin 8) : M0 a h = locM (SC a h) :=
  match h with
  | 0 => rfl | 1 => rfl | 2 => rfl | 3 => rfl | 4 => rfl | 5 => rfl | 6 => rfl | 7 => rfl
/-- The local sums. -/
theorem L0_eq (a : Args F) (h : Fin 8) : L0 a h = locL (SC a h) :=
  match h with
  | 0 => rfl | 1 => rfl | 2 => rfl | 3 => rfl | 4 => rfl | 5 => rfl | 6 => rfl | 7 => rfl
/-- The local accumulators. -/
theorem O0_eq (a : Args F) (h : Fin 8) : O0 a h = locO (SC a h) (LV a h) :=
  match h with
  | 0 => rfl | 1 => rfl | 2 => rfl | 3 => rfl | 4 => rfl | 5 => rfl | 6 => rfl | 7 => rfl
/-- The maxima after the first exchange. -/
theorem M1_eq (a : Args F) (P0 : Pack F) (h : Fin 8) : M1 a P0 h = mrgM (M0 a h) (unM P0 h) :=
  match h with
  | 0 => rfl | 1 => rfl | 2 => rfl | 3 => rfl | 4 => rfl | 5 => rfl | 6 => rfl | 7 => rfl
/-- The sums after the first exchange. -/
theorem L1_eq (a : Args F) (P0 : Pack F) (h : Fin 8) : L1 a P0 h = mrgL (M0 a h) (L0 a h) (unM P0 h) (unL P0 h) :=
  match h with
  | 0 => rfl | 1 => rfl | 2 => rfl | 3 => rfl | 4 => rfl | 5 => rfl | 6 => rfl | 7 => rfl
/-- The accumulators after the first exchange. -/
theorem O1_eq (a : Args F) (P0 : Pack F) (h : Fin 8) : O1 a P0 h = mrgO (M0 a h) (O0 a h) (unM P0 h) (unO P0 h) :=
  match h with
  | 0 => rfl | 1 => rfl | 2 => rfl | 3 => rfl | 4 => rfl | 5 => rfl | 6 => rfl | 7 => rfl
/-- The maxima after the second. -/
theorem M2_eq (a : Args F) (P0 P1 : Pack F) (h : Fin 8) : M2 a P0 P1 h = mrgM (M1 a P0 h) (unM P1 h) :=
  match h with
  | 0 => rfl | 1 => rfl | 2 => rfl | 3 => rfl | 4 => rfl | 5 => rfl | 6 => rfl | 7 => rfl
/-- The sums after the second. -/
theorem L2_eq (a : Args F) (P0 P1 : Pack F) (h : Fin 8) : L2 a P0 P1 h = mrgL (M1 a P0 h) (L1 a P0 h) (unM P1 h) (unL P1 h) :=
  match h with
  | 0 => rfl | 1 => rfl | 2 => rfl | 3 => rfl | 4 => rfl | 5 => rfl | 6 => rfl | 7 => rfl
/-- The accumulators after the second. -/
theorem O2_eq (a : Args F) (P0 P1 : Pack F) (h : Fin 8) : O2 a P0 P1 h = mrgO (M1 a P0 h) (O1 a P0 h) (unM P1 h) (unO P1 h) :=
  match h with
  | 0 => rfl | 1 => rfl | 2 => rfl | 3 => rfl | 4 => rfl | 5 => rfl | 6 => rfl | 7 => rfl
/-- The sums after the third. -/
theorem L3_eq (a : Args F) (P0 P1 P2 : Pack F) (h : Fin 8) : L3 a P0 P1 P2 h = mrgL (M2 a P0 P1 h) (L2 a P0 P1 h) (unM P2 h) (unL P2 h) :=
  match h with
  | 0 => rfl | 1 => rfl | 2 => rfl | 3 => rfl | 4 => rfl | 5 => rfl | 6 => rfl | 7 => rfl
/-- The accumulators after the third. -/
theorem O3_eq (a : Args F) (P0 P1 P2 : Pack F) (h : Fin 8) : O3 a P0 P1 P2 h = mrgO (M2 a P0 P1 h) (O2 a P0 P1 h) (unM P2 h) (unO P2 h) :=
  match h with
  | 0 => rfl | 1 => rfl | 2 => rfl | 3 => rfl | 4 => rfl | 5 => rfl | 6 => rfl | 7 => rfl
/-- The block sent first. -/
theorem snd0_eq (a : Args F) : snd0 a = flat (mkPack (O0 a) (M0 a) (L0 a)) := rfl
/-- The block sent second. -/
theorem snd1_eq (a : Args F) (P0 : Pack F) : snd1 a P0 = flat (mkPack (O1 a P0) (M1 a P0) (L1 a P0)) := rfl
/-- The block sent third. -/
theorem snd2_eq (a : Args F) (P0 P1 : Pack F) : snd2 a P0 P1 = flat (mkPack (O2 a P0 P1) (M2 a P0 P1) (L2 a P0 P1)) := rfl
/-- The result of batch row 0. -/
theorem out0_eq (a : Args F) (P0 P1 P2 : Pack F) : out0 a P0 P1 P2 = mkOut ![O3 a P0 P1 P2 0, O3 a P0 P1 P2 1, O3 a P0 P1 P2 2, O3 a P0 P1 P2 3] ![L3 a P0 P1 P2 0, L3 a P0 P1 P2 1, L3 a P0 P1 P2 2, L3 a P0 P1 P2 3] (ldWo a) := rfl
/-- The result of batch row 1. -/
theorem out1_eq (a : Args F) (P0 P1 P2 : Pack F) : out1 a P0 P1 P2 = mkOut ![O3 a P0 P1 P2 4, O3 a P0 P1 P2 5, O3 a P0 P1 P2 6, O3 a P0 P1 P2 7] ![L3 a P0 P1 P2 4, L3 a P0 P1 P2 5, L3 a P0 P1 P2 6, L3 a P0 P1 P2 7] (ldWo a) := rfl

end Cert.KernelIdeal.Attn

end
-- ==== Proof.At.lean ====
/-
# The stages at an index, over the extended reals

Each stage of a head's arithmetic read at a row and a column, at the ideal instance: sums for the products, folds for the
maxima, and the travelling block read back as what was packed.
-/
module

public import proofs.«01_k».proof.Proof.Heads
public import Idealize.ShloMosaic.Lib.Pointwise
public import Idealize.ShloMosaic.Lib.Pointwise.IndexBridge
public import Idealize.ShloMosaic.Lib.IdealHost

@[expose] public section

set_option maxRecDepth 16384

noncomputable section

namespace Cert.KernelIdeal.Attn

open Cert.KernelIdeal Cert.KernelIdeal.Gen
open Idealize.ShloMosaic

/-- The scale of the scores, an eighth. -/
def scale : EReal := Ideal.ofBits .f32 0x3E000000#32
/-- The score of a masked key. -/
def low : EReal := Ideal.ofBits .f32 0xCE6E6B28#32

/-- −∞, as the maxima start. -/
theorem ofBits_neg_inf : Ideal.ofBits .f32 0xFF800000#32 = ⊥ := by
  simp [Ideal.ofBits, Ideal.ieee]

theorem qmat_at (x : Vec Ideal S1x128x512 .bf16) (wq : Vec Ideal S512x256 .bf16) (i : Fin 128) (e : Fin 256) :
    qmat x wq (ix2 i e) = ∑ t : Fin 512, (x (ix3 0 i t) : EReal) * wq (ix2 t e) := by
  pointwise [qmat]

theorem locS_at (mask : IVec S128x128 1) (q : FVec Ideal S128x256 .f32) (h : Fin 8) (k : Vec Ideal S1x128x1x64 .bf16)
    (i j : Fin 128) :
    locS mask q h k (ix2 i j) = Scalar.select (mask (ix2 i j))
      ((∑ d : Fin 64, (q (ix2 i ⟨64 * (h.val % 4) + d.val, by omega⟩) : EReal) * k (ix4 0 j 0 d)) * scale) low := by
  pointwise [locS]
  rfl

theorem locM_at (s : FVec Ideal S128x128 .f32) (i : Fin 128) :
    locM s (ix2 i 0) = Finset.univ.fold max (⊥ : EReal) (fun j : Fin 128 => s (ix2 i j)) := by
  pointwise [locM]
  rw [ofBits_neg_inf]

theorem locE_at (s : FVec Ideal S128x128 .f32) (i j : Fin 128) :
    locE s (ix2 i j) = Ideal.exp (s (ix2 i j) - locM s (ix2 i 0)) := by
  pointwise [locE]

theorem locL_at (s : FVec Ideal S128x128 .f32) (i : Fin 128) :
    locL s (ix2 i 0) = ∑ j : Fin 128, (locE s (ix2 i j) : EReal) := by
  pointwise [locL]

theorem locO_at (s : FVec Ideal S128x128 .f32) (v : Vec Ideal S1x128x1x64 .bf16) (i : Fin 128) (d : Fin 64) :
    locO s v (ix2 i d) = ∑ j : Fin 128, (locE s (ix2 i j) : EReal) * v (ix4 0 j 0 d) := by
  pointwise [locO]

theorem mrgM_at (m m' : FVec Ideal S128x1 .f32) (i : Fin 128) :
    mrgM m m' (ix2 i 0) = max (m (ix2 i 0) : EReal) (m' (ix2 i 0)) := by
  pointwise [mrgM]

theorem mrgL_at (m l m' l' : FVec Ideal S128x1 .f32) (i : Fin 128) :
    mrgL m l m' l' (ix2 i 0) = (l (ix2 i 0) : EReal) * Ideal.exp ((m (ix2 i 0) : EReal) - max (m (ix2 i 0) : EReal) (m' (ix2 i 0)))
      + (l' (ix2 i 0) : EReal) * Ideal.exp ((m' (ix2 i 0) : EReal) - max (m (ix2 i 0) : EReal) (m' (ix2 i 0))) := by
  pointwise [mrgL, mrgM]

theorem mrgO_at (m : FVec Ideal S128x1 .f32) (o : FVec Ideal S128x64 .f32) (m' : FVec Ideal S128x1 .f32) (o' : FVec Ideal S128x64 .f32)
    (i : Fin 128) (d : Fin 64) :
    mrgO m o m' o' (ix2 i d) = (o (ix2 i d) : EReal) * Ideal.exp ((m (ix2 i 0) : EReal) - max (m (ix2 i 0) : EReal) (m' (ix2 i 0)))
      + (o' (ix2 i d) : EReal) * Ideal.exp ((m' (ix2 i 0) : EReal) - max (m (ix2 i 0) : EReal) (m' (ix2 i 0))) := by
  pointwise [mrgO, mrgM]

theorem tile_flat (w : FVec Ideal S1x5x128x128 .bf16) (t : Fin 5) (i j : Fin 128) :
    untile t (flat w) (ix2 i j) = w (ix4 0 t i j) := by
  pointwise [untile, tile, flat, ← ix3_eq_valueIdx]

theorem mkStat_m (m l : Fin 8 → FVec Ideal S128x1 .f32) (i : Fin 128) (h : Fin 8) :
    mkStat m l (ix2 i ⟨2 * h.val, by omega⟩) = m h (ix2 i 0) := by
  match h with
  | 0 => pointwise [mkStat]
  | 1 => pointwise [mkStat]
  | 2 => pointwise [mkStat]
  | 3 => pointwise [mkStat]
  | 4 => pointwise [mkStat]
  | 5 => pointwise [mkStat]
  | 6 => pointwise [mkStat]
  | 7 => pointwise [mkStat]

theorem mkStat_l (m l : Fin 8 → FVec Ideal S128x1 .f32) (i : Fin 128) (h : Fin 8) :
    mkStat m l (ix2 i ⟨2 * h.val + 1, by omega⟩) = l h (ix2 i 0) := by
  match h with
  | 0 => pointwise [mkStat]
  | 1 => pointwise [mkStat]
  | 2 => pointwise [mkStat]
  | 3 => pointwise [mkStat]
  | 4 => pointwise [mkStat]
  | 5 => pointwise [mkStat]
  | 6 => pointwise [mkStat]
  | 7 => pointwise [mkStat]

theorem mkPair_fst (o o' : FVec Ideal S128x64 .f32) (i : Fin 128) (d : Fin 64) :
    mkPair o o' (ix3 0 i ⟨0 + d.val, by omega⟩) = o (ix2 i d) := by
  pointwise [mkPair]

theorem mkPair_snd (o o' : FVec Ideal S128x64 .f32) (i : Fin 128) (d : Fin 64) :
    mkPair o o' (ix3 0 i ⟨64 + d.val, by omega⟩) = o' (ix2 i d) := by
  pointwise [mkPair]

theorem unM_pack (o : Fin 8 → FVec Ideal S128x64 .f32) (m l : Fin 8 → FVec Ideal S128x1 .f32) (h : Fin 8) (i : Fin 128) :
    unM (flat (mkPack o m l)) h (ix2 i 0) = m h (ix2 i 0) := by
  rw [← mkStat_m m l]
  pointwise [unM]
  rw [tile_flat]
  pointwise [mkPack]

theorem unL_pack (o : Fin 8 → FVec Ideal S128x64 .f32) (m l : Fin 8 → FVec Ideal S128x1 .f32) (h : Fin 8) (i : Fin 128) :
    unL (flat (mkPack o m l)) h (ix2 i 0) = l h (ix2 i 0) := by
  rw [← mkStat_l m l]
  pointwise [unL]
  rw [tile_flat]
  pointwise [mkPack]

theorem unO_pack (o : Fin 8 → FVec Ideal S128x64 .f32) (m l : Fin 8 → FVec Ideal S128x1 .f32) (h : Fin 8) (i : Fin 128) (d : Fin 64) :
    unO (flat (mkPack o m l)) h (ix2 i d) = o h (ix2 i d) := by
  match h with
  | 0 => rw [← mkPair_fst (o 0) (o 1)]; pointwise [unO]; rw [tile_flat]; pointwise [mkPack]
  | 1 => rw [← mkPair_snd (o 0) (o 1)]; pointwise [unO]; rw [tile_flat]; pointwise [mkPack]
  | 2 => rw [← mkPair_fst (o 2) (o 3)]; pointwise [unO]; rw [tile_flat]; pointwise [mkPack]
  | 3 => rw [← mkPair_snd (o 2) (o 3)]; pointwise [unO]; rw [tile_flat]; pointwise [mkPack]
  | 4 => rw [← mkPair_fst (o 4) (o 5)]; pointwise [unO]; rw [tile_flat]; pointwise [mkPack]
  | 5 => rw [← mkPair_snd (o 4) (o 5)]; pointwise [unO]; rw [tile_flat]; pointwise [mkPack]
  | 6 => rw [← mkPair_fst (o 6) (o 7)]; pointwise [unO]; rw [tile_flat]; pointwise [mkPack]
  | 7 => rw [← mkPair_snd (o 6) (o 7)]; pointwise [unO]; rw [tile_flat]; pointwise [mkPack]

theorem mkOut_at (o : Fin 4 → FVec Ideal S128x64 .f32) (l : Fin 4 → FVec Ideal S128x1 .f32) (wo : Vec Ideal S256x512 .bf16)
    (i : Fin 128) (e : Fin 512) :
    mkOut o l wo (ix3 0 i e) = ∑ f : Fin 256, Ideal.div (o ⟨f.val / 64, by omega⟩ (ix2 i ⟨f.val % 64, by omega⟩)) (l ⟨f.val / 64, by omega⟩ (ix2 i 0))
      * (wo (ix2 f e) : EReal) := by
  pointwise [mkOut]
  refine Finset.sum_congr rfl fun f _ => ?_
  congr 1
  have hf := f.isLt
  split
  · rename_i h
    have h4 : (⟨f.val / 64, by omega⟩ : Fin 4) = 0 := Fin.ext (show f.val / 64 = 0 by omega)
    have h6 : (⟨f.val % 64, by omega⟩ : Fin 64) = ⟨f.val, by omega⟩ := Fin.ext (show f.val % 64 = f.val by omega)
    rw [h4, h6]
  split
  · rename_i h
    have h4 : (⟨f.val / 64, by omega⟩ : Fin 4) = 1 := Fin.ext (show f.val / 64 = 1 by omega)
    have h6 : (⟨f.val % 64, by omega⟩ : Fin 64) = ⟨f.val - 64, by omega⟩ := Fin.ext (show f.val % 64 = f.val - 64 by omega)
    rw [h4, h6]
  split
  · rename_i h
    have h4 : (⟨f.val / 64, by omega⟩ : Fin 4) = 2 := Fin.ext (show f.val / 64 = 2 by omega)
    have h6 : (⟨f.val % 64, by omega⟩ : Fin 64) = ⟨f.val - 64 - 64, by omega⟩ := Fin.ext (show f.val % 64 = f.val - 64 - 64 by omega)
    rw [h4, h6]
  · have h4 : (⟨f.val / 64, by omega⟩ : Fin 4) = 3 := Fin.ext (show f.val / 64 = 3 by omega)
    have h6 : (⟨f.val % 64, by omega⟩ : Fin 64) = ⟨f.val - 64 - 64 - 64, by omega⟩ := Fin.ext (show f.val % 64 = f.val - 64 - 64 - 64 by omega)
    rw [h4, h6]

/-- The queries' input of a device, -/
def ax (a : Args Ideal) : Vec Ideal S2x128x512 .bf16 := a.x
/-- its query weights, -/
def awq (a : Args Ideal) : Vec Ideal S512x256 .bf16 := a.wq
/-- its block of the keys, -/
def ak (a : Args Ideal) : Vec Ideal S2x128x4x64 .bf16 := a.k
/-- its block of the values, -/
def av (a : Args Ideal) : Vec Ideal S2x128x4x64 .bf16 := a.v
/-- and the output weights. -/
def awo (a : Args Ideal) : Vec Ideal S256x512 .bf16 := a.wo

theorem ldX0_at (a : Args Ideal) (i : Fin 128) (t : Fin 512) : ldX0 a (ix3 0 i t) = ax a (ix3 0 i t) := by
  show View.ld a.x (Rect.unit (s := S2x128x512) ![0, 0, 0] S1x128x512.size inb_S2x128x512_S1x128x512_0_0_0) (ix3 0 i t) = _
  pointwise; rfl

theorem ldX1_at (a : Args Ideal) (i : Fin 128) (t : Fin 512) : ldX1 a (ix3 0 i t) = ax a (ix3 1 i t) := by
  show View.ld a.x (Rect.unit (s := S2x128x512) ![1, 0, 0] S1x128x512.size inb_S2x128x512_S1x128x512_1_0_0) (ix3 0 i t) = _
  pointwise; rfl

theorem ldWq_at (a : Args Ideal) (t : Fin 512) (e : Fin 256) : ldWq a (ix2 t e) = awq a (ix2 t e) := by
  show View.ld a.wq (Rect.unit (s := S512x256) ![0, 0] S512x256.size inb_S512x256_S512x256_0_0) (ix2 t e) = _
  pointwise; rfl

theorem ldWo_at (a : Args Ideal) (f : Fin 256) (e : Fin 512) : ldWo a (ix2 f e) = awo a (ix2 f e) := by
  show View.ld a.wo (Rect.unit (s := S256x512) ![0, 0] S256x512.size inb_S256x512_S256x512_0_0) (ix2 f e) = _
  pointwise; rfl

theorem QB_at (a : Args Ideal) (b : Fin 2) (i : Fin 128) (e : Fin 256) :
    QB a b (ix2 i e) = ∑ t : Fin 512, (ax a (ix3 b i t) : EReal) * awq a (ix2 t e) := by
  match b with
  | 0 => rw [QB_eq0, qmat_at]; exact Finset.sum_congr rfl fun t _ => by rw [ldX0_at, ldWq_at]
  | 1 => rw [QB_eq1, qmat_at]; exact Finset.sum_congr rfl fun t _ => by rw [ldX1_at, ldWq_at]

theorem LK_at (a : Args Ideal) (h : Fin 8) (j : Fin 128) (d : Fin 64) :
    LK a h (ix4 0 j 0 d) = ak a (ix4 ⟨h.val / 4, by omega⟩ j ⟨h.val % 4, by omega⟩ d) := by
  match h with
  | 0 =>
    show View.ld a.k (Rect.unit (s := S2x128x4x64) ![0, 0, 0, 0] S1x128x1x64.size inb_S2x128x4x64_S1x128x1x64_0_0_0_0) (ix4 0 j 0 d) = ak a (ix4 0 j 0 d)
    pointwise; rfl
  | 1 =>
    show View.ld a.k (Rect.unit (s := S2x128x4x64) ![0, 0, 1, 0] S1x128x1x64.size inb_S2x128x4x64_S1x128x1x64_0_0_1_0) (ix4 0 j 0 d) = ak a (ix4 0 j 1 d)
    pointwise; rfl
  | 2 =>
    show View.ld a.k (Rect.unit (s := S2x128x4x64) ![0, 0, 2, 0] S1x128x1x64.size inb_S2x128x4x64_S1x128x1x64_0_0_2_0) (ix4 0 j 0 d) = ak a (ix4 0 j 2 d)
    pointwise; rfl
  | 3 =>
    show View.ld a.k (Rect.unit (s := S2x128x4x64) ![0, 0, 3, 0] S1x128x1x64.size inb_S2x128x4x64_S1x128x1x64_0_0_3_0) (ix4 0 j 0 d) = ak a (ix4 0 j 3 d)
    pointwise; rfl
  | 4 =>
    show View.ld a.k (Rect.unit (s := S2x128x4x64) ![1, 0, 0, 0] S1x128x1x64.size inb_S2x128x4x64_S1x128x1x64_1_0_0_0) (ix4 0 j 0 d) = ak a (ix4 1 j 0 d)
    pointwise; rfl
  | 5 =>
    show View.ld a.k (Rect.unit (s := S2x128x4x64) ![1, 0, 1, 0] S1x128x1x64.size inb_S2x128x4x64_S1x128x1x64_1_0_1_0) (ix4 0 j 0 d) = ak a (ix4 1 j 1 d)
    pointwise; rfl
  | 6 =>
    show View.ld a.k (Rect.unit (s := S2x128x4x64) ![1, 0, 2, 0] S1x128x1x64.size inb_S2x128x4x64_S1x128x1x64_1_0_2_0) (ix4 0 j 0 d) = ak a (ix4 1 j 2 d)
    pointwise; rfl
  | 7 =>
    show View.ld a.k (Rect.unit (s := S2x128x4x64) ![1, 0, 3, 0] S1x128x1x64.size inb_S2x128x4x64_S1x128x1x64_1_0_3_0) (ix4 0 j 0 d) = ak a (ix4 1 j 3 d)
    pointwise; rfl

theorem LV_at (a : Args Ideal) (h : Fin 8) (j : Fin 128) (d : Fin 64) :
    LV a h (ix4 0 j 0 d) = av a (ix4 ⟨h.val / 4, by omega⟩ j ⟨h.val % 4, by omega⟩ d) := by
  match h with
  | 0 =>
    show View.ld a.v (Rect.unit (s := S2x128x4x64) ![0, 0, 0, 0] S1x128x1x64.size inb_S2x128x4x64_S1x128x1x64_0_0_0_0) (ix4 0 j 0 d) = av a (ix4 0 j 0 d)
    pointwise; rfl
  | 1 =>
    show View.ld a.v (Rect.unit (s := S2x128x4x64) ![0, 0, 1, 0] S1x128x1x64.size inb_S2x128x4x64_S1x128x1x64_0_0_1_0) (ix4 0 j 0 d) = av a (ix4 0 j 1 d)
    pointwise; rfl
  | 2 =>
    show View.ld a.v (Rect.unit (s := S2x128x4x64) ![0, 0, 2, 0] S1x128x1x64.size inb_S2x128x4x64_S1x128x1x64_0_0_2_0) (ix4 0 j 0 d) = av a (ix4 0 j 2 d)
    pointwise; rfl
  | 3 =>
    show View.ld a.v (Rect.unit (s := S2x128x4x64) ![0, 0, 3, 0] S1x128x1x64.size inb_S2x128x4x64_S1x128x1x64_0_0_3_0) (ix4 0 j 0 d) = av a (ix4 0 j 3 d)
    pointwise; rfl
  | 4 =>
    show View.ld a.v (Rect.unit (s := S2x128x4x64) ![1, 0, 0, 0] S1x128x1x64.size inb_S2x128x4x64_S1x128x1x64_1_0_0_0) (ix4 0 j 0 d) = av a (ix4 1 j 0 d)
    pointwise; rfl
  | 5 =>
    show View.ld a.v (Rect.unit (s := S2x128x4x64) ![1, 0, 1, 0] S1x128x1x64.size inb_S2x128x4x64_S1x128x1x64_1_0_1_0) (ix4 0 j 0 d) = av a (ix4 1 j 1 d)
    pointwise; rfl
  | 6 =>
    show View.ld a.v (Rect.unit (s := S2x128x4x64) ![1, 0, 2, 0] S1x128x1x64.size inb_S2x128x4x64_S1x128x1x64_1_0_2_0) (ix4 0 j 0 d) = av a (ix4 1 j 2 d)
    pointwise; rfl
  | 7 =>
    show View.ld a.v (Rect.unit (s := S2x128x4x64) ![1, 0, 3, 0] S1x128x1x64.size inb_S2x128x4x64_S1x128x1x64_1_0_3_0) (ix4 0 j 0 d) = av a (ix4 1 j 3 d)
    pointwise; rfl

end Cert.KernelIdeal.Attn

end
-- ==== Proof.Ref.lean ====
/-
# The reference's stages

The reference's result, a composed term of its arguments, cut at the arrays the mathematics names: the mask, the queries,
the scores, the weights, the context and the projected output.
-/
module

public import proofs.«01_k».proof.Proof.Gen.ReferenceIdeal.Run

@[expose] public section

set_option maxRecDepth 100000

noncomputable section

namespace Cert.ReferenceIdeal.Attn

open Cert.ReferenceIdeal Cert.ReferenceIdeal.Gen
open Idealize.ShloMosaic Idealize.ShloMosaic.TcCoe Idealize.ShloMosaic.StableHlo

variable {F : FTy → Type} [FloatOps F]

/-- The block of a query row: its number over 64, rounded down. -/
def qBlk  : IVec S128 32 :=
  have t1 := iotaInDim S128 32 0
  have t2 := signi t1
  have t3 := constantI S_ 32 64#32
  have t4 := id t3
  have t5 := signi t4
  have t6 := broadcastInDim S128 ![] bcast_S_S128 t5
  have t7 := cmpi .ne t2 t6
  have t8 := broadcastInDim S128 ![] bcast_S_S128 t4
  have t9 := Host.remsi t1 t8
  have t10 := constantI S_ 32 0#32
  have t11 := broadcastInDim S128 ![] bcast_S_S128 t10
  have t12 := cmpi .ne t9 t11
  have t13 := andi t7 t12
  have t14 := Host.divsi t1 t8
  have t15 := constantI S_ 32 1#32
  have t16 := broadcastInDim S128 ![] bcast_S_S128 t15
  have t17 := subi t14 t16
  select t13 t17 t14

/-- The block of a key row: its number over 64, rounded down. -/
def kBlk  : IVec S1024 32 :=
  have t21 := iotaInDim S1024 32 0
  have t22 := signi t21
  have t3 := constantI S_ 32 64#32
  have t4 := id t3
  have t5 := signi t4
  have t23 := broadcastInDim S1024 ![] bcast_S_S1024 t5
  have t24 := cmpi .ne t22 t23
  have t25 := broadcastInDim S1024 ![] bcast_S_S1024 t4
  have t26 := Host.remsi t21 t25
  have t10 := constantI S_ 32 0#32
  have t27 := broadcastInDim S1024 ![] bcast_S_S1024 t10
  have t28 := cmpi .ne t26 t27
  have t29 := andi t24 t28
  have t30 := Host.divsi t21 t25
  have t15 := constantI S_ 32 1#32
  have t31 := broadcastInDim S1024 ![] bcast_S_S1024 t15
  have t32 := subi t30 t31
  select t29 t32 t30

/-- Which keys a query row attends to. -/
def mask  : IVec S128x1024 1 :=
  have t19 := broadcastInDim S128x1 ![0] bcast_S128_S128x1_0 qBlk
  have t20 := broadcastInDim S128x1024 ![0, 1] bcast_S128x1_S128x1024_0_1 t19
  have t34 := broadcastInDim S1x1024 ![1] bcast_S1024_S1x1024_1 kBlk
  have t35 := broadcastInDim S128x1024 ![0, 1] bcast_S1x1024_S128x1024_0_1 t34
  have t36 := cmpi .eq t20 t35
  have t10 := constantI S_ 32 0#32
  have t37 := broadcastInDim S1x1024 ![] bcast_S_S1x1024 t10
  have t38 := cmpi .eq t34 t37
  have t39 := broadcastInDim S128x1024 ![0, 1] bcast_S1x1024_S128x1024_0_1 t38
  have t40 := ori t36 t39
  have t41 := addi t20 t35
  have t42 := constantI S_ 32 3#32
  have t43 := id t42
  have t44 := cmpi .eq t43 t10
  have t15 := constantI S_ 32 1#32
  have t45 := select t44 t15 t43
  have t46 := broadcastInDim S128x1024 ![] bcast_S_S128x1024 t45
  have t47 := Host.remsi t41 t46
  have t48 := broadcastInDim S128x1024 ![] bcast_S_S128x1024 t10
  have t49 := cmpi .slt t47 t48
  have t50 := cmpi .slt t45 t10
  have t51 := broadcastInDim S128x1024 ![] bcast_S_S128x1024 t50
  have t52 := cmpi .ne t49 t51
  have t53 := cmpi .ne t47 t48
  have t54 := andi t52 t53
  have t55 := addi t47 t46
  have t56 := select t54 t55 t47
  have t57 := cmpi .eq t56 t48
  ori t40 t57

/-- Whether a query row attends to any key. -/
def keep  : IVec S128 1 :=
  have t59 := constantI S_ 1 0#1
  Host.reduce IntOp.ori mask t59 reducesTo_S128x1024_S128_d1 h_S_

/-- The queries, by head. -/
def query (x : FVec F S2x128x512 .bf16) (wq : FVec F S512x256 .bf16) : FVec F S2x128x4x64 .f32 :=
  have t65 := extf .f32 x bitsLt_bf16_f32
  have t66 := extf .f32 wq bitsLt_bf16_f32
  have t67 := Host.dotGeneral dot_S2x128x512_S512x256_S2x128x256_2_0_01_1_n_n none t65 t66
  have t68 := truncf .bf16 t67 bitsLt_bf16_f32
  have t69 := shapeCast _ t68 shapeCasts_S2x128x256_S2x128x4x64
  extf .f32 t69 bitsLt_bf16_f32

/-- The scaled scores, the masked ones replaced by the low constant. -/
def score (q : FVec F S2x128x4x64 .f32) (k : FVec F S2x1024x4x64 .bf16) : FVec F S2x4x128x1024 .f32 :=
  have t63 := broadcastInDim S1x1x128x1024 ![2, 3] bcast_S128x1024_S1x1x128x1024_2_3 mask
  have t64 := broadcastInDim S2x4x128x1024 ![0, 1, 2, 3] bcast_S1x1x128x1024_S2x4x128x1024_0_1_2_3 t63
  have t71 := extf .f32 k bitsLt_bf16_f32
  have t72 := Host.dotGeneral dot_S2x128x4x64_S2x1024x4x64_S2x4x128x1024_3_3_1_1_02_02 none q t71
  have t73 := truncf .bf16 t72 bitsLt_bf16_f32
  have t74 := extf .f32 t73 bitsLt_bf16_f32
  have t75 := constant S_ .f32 0x3E000000#32
  have t76 := broadcastInDim S2x4x128x1024 ![] bcast_S_S2x4x128x1024 t75
  have t77 := mulf t74 t76
  have t78 := constant S_ .f32 0xCE6E6B28#32
  have t79 := id t78
  have t80 := broadcastInDim S2x4x128x1024 ![] bcast_S_S2x4x128x1024 t79
  select t64 t77 t80

/-- The exponentials of the scores less their row maximum. -/
def numer (s : FVec F S2x4x128x1024 .f32) : FVec F S2x4x128x1024 .f32 :=
  have t82 := constant S_ .f32 0xFF800000#32
  have t83 := Host.reduce FloatOps.maximumf s t82 reducesTo_S2x4x128x1024_S2x4x128_d3 h_S_
  have t84 := broadcastInDim S2x4x128x1 ![0, 1, 2] bcast_S2x4x128_S2x4x128x1_0_1_2 t83
  have t85 := broadcastInDim S2x4x128x1024 ![0, 1, 2, 3] bcast_S2x4x128x1_S2x4x128x1024_0_1_2_3 t84
  have t86 := subf s t85
  Host.exp t86

/-- The weights: the exponentials over their row sum. -/
def weight (e : FVec F S2x4x128x1024 .f32) : FVec F S2x4x128x1024 .f32 :=
  have t61 := broadcastInDim S1x1x128x1 ![2] bcast_S128_S1x1x128x1_2 keep
  have t62 := broadcastInDim S2x4x128x1024 ![0, 1, 2, 3] bcast_S1x1x128x1_S2x4x128x1024_0_1_2_3 t61
  have t88 := broadcastInDim S2x4x128x1 ![0, 1, 2, 3] bcast_S1x1x128x1_S2x4x128x1_0_1_2_3 t61
  have t89 := constant S_ .f32 0x00000000#32
  have t90 := Host.reduceAdd e t89 reducesTo_S2x4x128x1024_S2x4x128_d3 h_S_
  have t91 := broadcastInDim S2x4x128x1 ![0, 1, 2] bcast_S2x4x128_S2x4x128x1_0_1_2 t90
  have t92 := constant S_ .f32 0x3F800000#32
  have t93 := id t92
  have t94 := broadcastInDim S2x4x128x1 ![] bcast_S_S2x4x128x1 t93
  have t95 := select t88 t91 t94
  have t96 := broadcastInDim S2x4x128x1024 ![0, 1, 2, 3] bcast_S2x4x128x1_S2x4x128x1024_0_1_2_3 t95
  have t97 := Host.divf e t96
  have t98 := id t89
  have t99 := broadcastInDim S2x4x128x1024 ![] bcast_S_S2x4x128x1024 t98
  select t62 t97 t99

/-- The context: the values summed with the weights, heads side by side. -/
def ctx (v : FVec F S2x1024x4x64 .bf16) (w : FVec F S2x4x128x1024 .f32) : FVec F S2x128x256 .f32 :=
  have t0 := extf .f32 v bitsLt_bf16_f32
  have t101 := Host.dotGeneral dot_S2x1024x4x64_S2x4x128x1024_S2x4x64x128_1_3_3_2_02_01 none t0 w
  have t102 := transpose S2x128x4x64 [0, 3, 1, 2] t101 transposes_S2x4x64x128_S2x128x4x64_0_3_1_2
  shapeCast _ t102 shapeCasts_S2x128x4x64_S2x128x256

/-- The context projected. -/
def proj (wo : FVec F S256x512 .bf16) (c : FVec F S2x128x256 .f32) : FVec F S2x128x512 .f32 :=
  have t104 := extf .f32 wo bitsLt_bf16_f32
  Host.dotGeneral dot_S2x128x256_S256x512_S2x128x512_2_0_01_1_n_n none c t104

/-- The reference's output, from its arguments. -/
def out (x : FVec F S2x128x512 .bf16) (wq : FVec F S512x256 .bf16) (k : FVec F S2x1024x4x64 .bf16) (v : FVec F S2x1024x4x64 .bf16) (wo : FVec F S256x512 .bf16) : FVec F S2x128x512 .f32 :=
  proj wo (ctx v (weight (numer (score (query x wq) k))))

/-- The reference's result term is its stages composed. -/
theorem res_eq (m : (ℓ : Loc nD τ sig) → Buf (Elt F) ℓ) (c : Dev nD) :
    Value.res_main_v53 m c = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.ReferenceIdeal.Attn
-- ==== Proof.Mask.lean ====
/-
# The mask and the scores, in both programs

A query row attends to a key when their blocks of 64 rows are the same, when the key's block is the first, or when the two
block numbers sum to a multiple of three. Both programs compute it in 32-bit words, the device from its own keys' place
among all the keys; here both are read as one formula, and with it the scores.
-/
module

public import proofs.«01_k».proof.Proof.At
public import proofs.«01_k».proof.Proof.Ref

@[expose] public section

set_option maxRecDepth 16384

noncomputable section

namespace Cert.Attn

open Idealize.ShloMosaic

/-- Whether query row `i` attends to key row `j`, as a bit. -/
def attend (i j : ℕ) : BitVec 1 :=
  if i / 64 = j / 64 ∨ j / 64 = 0 ∨ (i / 64 + j / 64) % 3 = 0 then 1#1 else 0#1

/-- The score of query row `i` and key row `j` in batch row `b` and head `h`. -/
def sc (x : Fin 2 → Fin 128 → Fin 512 → EReal) (wq : Fin 512 → Fin 256 → EReal)
    (k : Fin 2 → Fin 1024 → Fin 4 → Fin 64 → EReal) (b : Fin 2) (h : Fin 4) (i : Fin 128) (j : Fin 1024) : EReal :=
  Scalar.select (attend i.val j.val)
    ((∑ d : Fin 64, (∑ t : Fin 512, x b i t * wq t ⟨64 * h.val + d.val, by omega⟩) * k b j h d) * KernelIdeal.Attn.scale)
    KernelIdeal.Attn.low

end Cert.Attn

namespace Cert.ReferenceIdeal.Attn

open Cert.ReferenceIdeal Cert.ReferenceIdeal.Gen
open Idealize.ShloMosaic

/-- A query row's block. -/
theorem qBlk_at (i : Fin 128) : qBlk (ix1 i) = BitVec.ofNat 32 (i.val / 64) := by
  pointwise [qBlk]
  revert i
  decide +kernel

/-- A key row's block. -/
theorem kBlk_at (j : Fin 1024) : kBlk (ix1 j) = BitVec.ofNat 32 (j.val / 64) := by
  pointwise [kBlk]
  revert j
  decide +kernel

/-- The reference's mask is the formula. -/
theorem mask_at (i : Fin 128) (j : Fin 1024) : mask (ix2 i j) = Cert.Attn.attend i.val j.val := by
  pointwise [mask]
  rw [qBlk_at, kBlk_at, Cert.Attn.attend]
  obtain ⟨a, ha⟩ : ∃ a : Fin 2, a.val = i.val / 64 := ⟨⟨i.val / 64, by omega⟩, rfl⟩
  obtain ⟨b, hb⟩ : ∃ b : Fin 16, b.val = j.val / 64 := ⟨⟨j.val / 64, by omega⟩, rfl⟩
  rw [← ha, ← hb]
  clear ha hb
  revert a b
  decide +kernel

end Cert.ReferenceIdeal.Attn

namespace Cert.KernelIdeal.Attn

open Cert.KernelIdeal Cert.KernelIdeal.Gen
open Idealize.ShloMosaic

/-- A row number over 64 rounded down, as the device computes it. -/
def blk (n : ℕ) : BitVec 32 :=
  Scalar.select
    (IntOp.andi
      (IntOp.cmpi CmpIPredicate.ne
        (IntOp.subi (BitVec.setWidth 32 (IntOp.cmpi CmpIPredicate.sgt (BitVec.ofNat 32 n) 0#32))
          (BitVec.setWidth 32 (IntOp.cmpi CmpIPredicate.slt (BitVec.ofNat 32 n) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 n) 64#32) 0#32))
    (IntOp.subi (IntOp.divsi ArithUnit.vector (BitVec.ofNat 32 n) 64#32) 1#32)
    (IntOp.divsi ArithUnit.vector (BitVec.ofNat 32 n) 64#32)

theorem blk_eq (i : Fin 128) : blk i.val = BitVec.ofNat 32 (i.val / 64) := by
  revert i
  decide +kernel

theorem v2_word (a : Args Ideal) : v2 a = BitVec.ofNat 32 a.c.val := by
  have h : ∀ c : Dev nD, Scalar.remsi (Scalar.divsi (Dev.word c) 1#32) 8#32 = BitVec.ofNat 32 c.val := by decide +kernel
  exact h a.c

/-- A device's mask is the formula, its key rows counted among all the keys. -/
theorem mask_at (a : Args Ideal) (i j : Fin 128) :
    v75 a (ix2 i j) = Cert.Attn.attend i.val (128 * a.c.val + j.val) := by
  pointwise [v75, v15, v29, v31, v32, k0_pay2, k0_pay3, k0_pay4, k0_pay5, k0_pay6]
  change IntOp.ori
    (IntOp.ori (IntOp.cmpi .eq (blk i.val) (IntOp.addi (Scalar.muli 2#32 (v2 a)) (blk j.val)))
      (IntOp.cmpi .eq (IntOp.addi (Scalar.muli 2#32 (v2 a)) (blk j.val)) 0#32))
    (IntOp.cmpi .eq
      (IntOp.remsi .vector (IntOp.addi (blk i.val) (IntOp.addi (Scalar.muli 2#32 (v2 a)) (blk j.val))) 3#32) 0#32) = _
  rw [blk_eq, blk_eq, v2_word, Cert.Attn.attend, show (128 * a.c.val + j.val) / 64 = 2 * a.c.val + j.val / 64 by omega]
  obtain ⟨p, hp⟩ : ∃ p : Fin 2, p.val = i.val / 64 := ⟨⟨i.val / 64, by omega⟩, rfl⟩
  obtain ⟨q, hq⟩ : ∃ q : Fin 2, q.val = j.val / 64 := ⟨⟨j.val / 64, by omega⟩, rfl⟩
  rw [← hp, ← hq]
  generalize a.c = c
  clear hp hq
  revert p q c
  decide +kernel

end Cert.KernelIdeal.Attn
-- ==== Proof.Soft.lean ====
/-
# Softmax in parts, over the extended reals

A row of real scores `s j` and of values `v j d` (any extended reals), seen through a set `S` of keys: a maximum-like shift
`m`, the sum `l` of the shifted exponentials and the weighted sums `o d` (`Soft`). Two such partial results over disjoint sets
of keys merge to one over the union (`Soft.merge`); a block of keys gives one (`Soft.of_block`); and the quotient `o d / l`
over all the keys is the normalised softmax's product with the values, whatever the shift (`Soft.quotient`).
-/
module

public import Idealize.ShloMosaic.PureOps.Ideal
public import Idealize.ShloMosaic.PureOps.Ideal.Laws
public import Mathlib.Data.EReal.Operations
public import Mathlib.Analysis.SpecialFunctions.Exp

@[expose] public section

noncomputable section

namespace Cert.KernelIdeal.Attn

open Idealize.ShloMosaic

variable {ι : Type} [DecidableEq ι]

/-- The partial result of a row over the keys of `S`: `m` is a real shift, `l` the sum of the exponentials of the shifted
    scores, `o d` the sum of the values weighted by them. -/
def Soft (s : ι → ℝ) (v : ι → Fin 64 → EReal) (S : Finset ι) (m l : EReal) (o : Fin 64 → EReal) : Prop :=
  ∃ M : ℝ, m = (M : EReal) ∧ l = ∑ j ∈ S, ((Real.exp (s j - M) : ℝ) : EReal)
    ∧ ∀ d, o d = ∑ j ∈ S, ((Real.exp (s j - M) : ℝ) : EReal) * v j d

/-- The exponential of a difference of reals. -/
theorem exp_sub_coe (a b : ℝ) : Ideal.exp ((a : EReal) - (b : EReal)) = ((Real.exp (a - b) : ℝ) : EReal) := by
  rw [← EReal.coe_sub]; rfl

/-- A nonnegative real factor distributes over a sum of extended reals. -/
theorem sum_mul_coe (S : Finset ι) (f : ι → EReal) {r : ℝ} (hr : 0 ≤ r) :
    (∑ j ∈ S, f j) * (r : EReal) = ∑ j ∈ S, f j * (r : EReal) := by
  induction S using Finset.induction_on with
  | empty => simp
  | insert a S ha ih =>
    rw [Finset.sum_insert ha, Finset.sum_insert ha, ← ih]
    exact EReal.right_distrib_of_nonneg_of_ne_top (by exact_mod_cast hr) (EReal.coe_ne_top r) _ _

/-- A sum of reals is real. -/
theorem sum_coe (S : Finset ι) (f : ι → ℝ) : ∑ j ∈ S, ((f j : ℝ) : EReal) = ((∑ j ∈ S, f j : ℝ) : EReal) := by
  induction S using Finset.induction_on with
  | empty => simp
  | insert a S ha ih => rw [Finset.sum_insert ha, Finset.sum_insert ha, ih, EReal.coe_add]

variable {s : ι → ℝ} {v : ι → Fin 64 → EReal}

/-- The shift of a partial sum of exponentials is changed by a factor. -/
theorem reshift_l (S : Finset ι) (M N : ℝ) :
    (∑ j ∈ S, ((Real.exp (s j - M) : ℝ) : EReal)) * ((Real.exp (M - N) : ℝ) : EReal)
      = ∑ j ∈ S, ((Real.exp (s j - N) : ℝ) : EReal) := by
  rw [sum_mul_coe S _ (Real.exp_pos _).le]
  refine Finset.sum_congr rfl fun j _ => ?_
  rw [← EReal.coe_mul, ← Real.exp_add, show s j - M + (M - N) = s j - N by ring]

/-- The shift of a partial weighted sum is changed by a factor. -/
theorem reshift_o (S : Finset ι) (M N : ℝ) (d : Fin 64) :
    (∑ j ∈ S, ((Real.exp (s j - M) : ℝ) : EReal) * v j d) * ((Real.exp (M - N) : ℝ) : EReal)
      = ∑ j ∈ S, ((Real.exp (s j - N) : ℝ) : EReal) * v j d := by
  rw [sum_mul_coe S _ (Real.exp_pos _).le]
  refine Finset.sum_congr rfl fun j _ => ?_
  rw [mul_right_comm, ← EReal.coe_mul, ← Real.exp_add, show s j - M + (M - N) = s j - N by ring]

/-- Two partial results over disjoint sets of keys, merged. -/
theorem Soft.merge {S T : Finset ι} (hST : Disjoint S T) {m l m' l' : EReal} {o o' : Fin 64 → EReal}
    (h : Soft s v S m l o) (h' : Soft s v T m' l' o') :
    Soft s v (S ∪ T) (max m m')
      (l * Ideal.exp (m - max m m') + l' * Ideal.exp (m' - max m m'))
      (fun d => o d * Ideal.exp (m - max m m') + o' d * Ideal.exp (m' - max m m')) := by
  obtain ⟨M, rfl, rfl, ho⟩ := h
  obtain ⟨M', rfl, rfl, ho'⟩ := h'
  have hm : max (M : EReal) (M' : EReal) = ((max M M' : ℝ) : EReal) := (EReal.coe_strictMono.monotone.map_max (a := M) (b := M')).symm
  refine ⟨max M M', hm, ?_, fun d => ?_⟩
  · rw [hm, exp_sub_coe, exp_sub_coe, reshift_l, reshift_l, Finset.sum_union hST]
  · show o d * _ + o' d * _ = _
    rw [hm, exp_sub_coe, exp_sub_coe, ho, ho', reshift_o, reshift_o, Finset.sum_union hST]

/-- The largest of finitely many reals, from −∞, is real. -/
theorem fold_max_real {n : ℕ} (hn : 0 < n) (f : Fin n → EReal) (r : Fin n → ℝ) (hf : ∀ j, f j = (r j : EReal)) :
    ∃ M : ℝ, Finset.univ.fold max (⊥ : EReal) f = (M : EReal) := by
  have h : (Finset.univ : Finset (Fin n)).Nonempty := ⟨⟨0, hn⟩, Finset.mem_univ _⟩
  obtain ⟨j, _, hj⟩ := Finset.exists_mem_eq_sup Finset.univ h f
  exact ⟨r j, (show Finset.univ.fold max (⊥ : EReal) f = Finset.univ.sup f from rfl).trans (hj.trans (hf j))⟩

/-- A block of `n` keys gives the partial result over it. -/
theorem Soft.of_block {n : ℕ} (hn : 0 < n) (e : Fin n → ι) (he : Function.Injective e) (f : Fin n → EReal)
    (hf : ∀ j, f j = (s (e j) : EReal)) (w : Fin n → Fin 64 → EReal) (hw : ∀ j d, w j d = v (e j) d) :
    Soft s v (Finset.univ.image e) (Finset.univ.fold max (⊥ : EReal) f)
      (∑ j, Ideal.exp (f j - Finset.univ.fold max (⊥ : EReal) f))
      (fun d => ∑ j, Ideal.exp (f j - Finset.univ.fold max (⊥ : EReal) f) * w j d) := by
  obtain ⟨M, hM⟩ := fold_max_real hn f (fun j => s (e j)) hf
  refine ⟨M, hM, ?_, fun d => ?_⟩
  · rw [Finset.sum_image fun _ _ _ _ h => he h]
    exact Finset.sum_congr rfl fun j _ => by rw [hM, hf, exp_sub_coe]
  · rw [Finset.sum_image fun _ _ _ _ h => he h]
    exact Finset.sum_congr rfl fun j _ => by rw [hM, hf, exp_sub_coe, hw]

/-- The quotient of the results over all the keys is the normalised softmax's product with the values. -/
theorem Soft.quotient {n : ℕ} (hn : 0 < n) {s : Fin n → ℝ} {v : Fin n → Fin 64 → EReal} {m l : EReal} {o : Fin 64 → EReal}
    (h : Soft s v Finset.univ m l o) (f : Fin n → EReal) (hf : ∀ j, f j = (s j : EReal)) (d : Fin 64) :
    Ideal.div (o d) l = ∑ j, v j d * Ideal.div (Ideal.exp (f j - Finset.univ.fold max (⊥ : EReal) f))
      (∑ k, Ideal.exp (f k - Finset.univ.fold max (⊥ : EReal) f)) := by
  obtain ⟨M, rfl, rfl, ho⟩ := h
  obtain ⟨M', hM'⟩ := fold_max_real hn f s hf
  have hne : (Finset.univ : Finset (Fin n)).Nonempty := ⟨⟨0, hn⟩, Finset.mem_univ _⟩
  have hL : 0 < ∑ j, Real.exp (s j - M) := Finset.sum_pos (fun _ _ => Real.exp_pos _) hne
  have hL' : 0 < ∑ j, Real.exp (s j - M') := Finset.sum_pos (fun _ _ => Real.exp_pos _) hne
  have hs : ∑ k, Ideal.exp (f k - Finset.univ.fold max (⊥ : EReal) f) = ((∑ j, Real.exp (s j - M') : ℝ) : EReal) := by
    rw [← sum_coe]; exact Finset.sum_congr rfl fun j _ => by rw [hM', hf, exp_sub_coe]
  rw [hs, ho, sum_coe, Ideal.div_coe hL.ne', sum_mul_coe _ _ (one_div_nonneg.2 hL.le)]
  refine Finset.sum_congr rfl fun j _ => ?_
  rw [hM', hf, exp_sub_coe, Ideal.div_coe hL'.ne', mul_right_comm, ← EReal.coe_mul, ← EReal.coe_mul, mul_comm]
  congr 2
  have hr : ∑ k, Real.exp (s k - M') = (∑ k, Real.exp (s k - M)) * Real.exp (M - M') := by
    rw [Finset.sum_mul]
    exact Finset.sum_congr rfl fun k _ => by rw [← Real.exp_add]; congr 1; ring
  rw [hr, show s j - M' = (s j - M) + (M - M') by ring, Real.exp_add]
  have := Real.exp_pos (M - M')
  field_simp

end Cert.KernelIdeal.Attn

end
-- ==== Proof.Math.lean ====
/-
# The attention as one formula

The result both programs compute, written over the whole arrays: softmax of the masked scores of a query row against all
1024 keys, the values summed with those weights, and the projection. The reference computes it as written; and with finite
queries, query weights and keys every score is a real number.
-/
module

public import proofs.«01_k».proof.Proof.Mask
public import proofs.«01_k».proof.Proof.Soft

@[expose] public section

set_option maxRecDepth 16384

noncomputable section

namespace Cert.Attn

open Idealize.ShloMosaic

/-- The attention of query row `i` in batch row `b`, projected on output column `e`. -/
def attn (x : Fin 2 → Fin 128 → Fin 512 → EReal) (wq : Fin 512 → Fin 256 → EReal)
    (k v : Fin 2 → Fin 1024 → Fin 4 → Fin 64 → EReal) (wo : Fin 256 → Fin 512 → EReal)
    (b : Fin 2) (i : Fin 128) (e : Fin 512) : EReal :=
  ∑ f : Fin 256, (∑ j : Fin 1024, v b j ⟨f.val / 64, by omega⟩ ⟨f.val % 64, by omega⟩
      * Ideal.div (Ideal.exp (sc x wq k b ⟨f.val / 64, by omega⟩ i j
            - Finset.univ.fold max (⊥ : EReal) (sc x wq k b ⟨f.val / 64, by omega⟩ i)))
          (∑ j' : Fin 1024, Ideal.exp (sc x wq k b ⟨f.val / 64, by omega⟩ i j'
            - Finset.univ.fold max (⊥ : EReal) (sc x wq k b ⟨f.val / 64, by omega⟩ i)))) * wo f e

/-- A product of reals is real. -/
theorem real_mul {a b : EReal} (ha : ∃ r : ℝ, a = r) (hb : ∃ r : ℝ, b = r) : ∃ r : ℝ, a * b = r := by
  obtain ⟨r, rfl⟩ := ha
  obtain ⟨r', rfl⟩ := hb
  exact ⟨r * r', (EReal.coe_mul r r').symm⟩

/-- A finite sum of reals is real. -/
theorem real_sum {ι : Type} [DecidableEq ι] (S : Finset ι) (f : ι → EReal) (hf : ∀ j, ∃ r : ℝ, f j = r) : ∃ r : ℝ, ∑ j ∈ S, f j = r := by
  choose g hg using hf
  exact ⟨∑ j ∈ S, g j, by rw [← KernelIdeal.Attn.sum_coe]; exact Finset.sum_congr rfl fun j _ => hg j⟩

/-- The scale is real. -/
theorem real_scale : ∃ r : ℝ, KernelIdeal.Attn.scale = r := by
  simp only [KernelIdeal.Attn.scale, Ideal.ofBits, Ideal.ieee]
  simp
  exact ⟨8388608 * (2 ^ 26)⁻¹, (EReal.coe_mul _ _).symm⟩

/-- The masked score is real. -/
theorem real_low : ∃ r : ℝ, KernelIdeal.Attn.low = r := by
  simp only [KernelIdeal.Attn.low, Ideal.ofBits, Ideal.ieee]
  simp
  exact ⟨-(15625000 * 2 ^ 6), by simp only [EReal.coe_neg, EReal.coe_mul, EReal.coe_pow]⟩

/-- Of real queries' inputs, query weights and keys, every score is real. -/
theorem real_sc {x : Fin 2 → Fin 128 → Fin 512 → EReal} {wq : Fin 512 → Fin 256 → EReal}
    {k : Fin 2 → Fin 1024 → Fin 4 → Fin 64 → EReal} (hx : ∀ b i t, ∃ r : ℝ, x b i t = r) (hw : ∀ t e, ∃ r : ℝ, wq t e = r)
    (hk : ∀ b j h d, ∃ r : ℝ, k b j h d = r) (b : Fin 2) (h : Fin 4) (i : Fin 128) (j : Fin 1024) :
    ∃ r : ℝ, sc x wq k b h i j = r := by
  unfold sc Scalar.select
  split
  · exact real_mul (real_sum _ _ fun d => real_mul (real_sum _ _ fun t => real_mul (hx _ _ _) (hw _ _)) (hk _ _ _ _)) real_scale
  · exact real_low

end Cert.Attn

namespace Cert.ReferenceIdeal.Attn

open Cert.ReferenceIdeal Cert.ReferenceIdeal.Gen
open Idealize.ShloMosaic

/-- Every query row attends to the first key. -/
theorem keep_at (i : Fin 128) : keep (ix1 i) = 1#1 := by
  pointwise [keep]
  have h0 : mask (ix2 i 0) = 1#1 := by
    rw [mask_at, Cert.Attn.attend, if_pos (.inr (.inl (by decide)))]
  have h1 : ∀ a : BitVec 1, IntOp.ori (1#1) a = 1#1 := by decide
  rw [← Finset.insert_erase (Finset.mem_univ (0 : Fin 1024)), Finset.fold_insert (Finset.notMem_erase _ _), h0, h1]

theorem query_at (x : FVec Ideal S2x128x512 .bf16) (wq : FVec Ideal S512x256 .bf16) (b : Fin 2) (i : Fin 128) (h : Fin 4) (d : Fin 64) :
    query x wq (ix4 b i h d) = ∑ t : Fin 512, (x (ix3 b i t) : EReal) * wq (ix2 t ⟨h.val * 64 + d.val, by omega⟩) := by
  pointwise [query]

/-- The reference's scores are the formula's. -/
theorem score_at (x : FVec Ideal S2x128x512 .bf16) (wq : FVec Ideal S512x256 .bf16) (k : FVec Ideal S2x1024x4x64 .bf16)
    (b : Fin 2) (h : Fin 4) (i : Fin 128) (j : Fin 1024) :
    score (query x wq) k (ix4 b h i j) = Cert.Attn.sc (fun b i t => x (ix3 b i t)) (fun t e => wq (ix2 t e))
      (fun b j h d => k (ix4 b j h d)) b h i j := by
  pointwise [score]
  rw [mask_at, Cert.Attn.sc]
  congr 2
  refine Finset.sum_congr rfl fun d _ => ?_
  rw [query_at]
  congr 1
  refine Finset.sum_congr rfl fun t _ => ?_
  congr 4
  omega

theorem numer_at (s : FVec Ideal S2x4x128x1024 .f32) (b : Fin 2) (h : Fin 4) (i : Fin 128) (j : Fin 1024) :
    numer s (ix4 b h i j) = Ideal.exp ((s (ix4 b h i j) : EReal) - Finset.univ.fold max (⊥ : EReal) (fun j' : Fin 1024 => s (ix4 b h i j'))) := by
  pointwise [numer]
  rw [KernelIdeal.Attn.ofBits_neg_inf]

theorem weight_at (e : FVec Ideal S2x4x128x1024 .f32) (b : Fin 2) (h : Fin 4) (i : Fin 128) (j : Fin 1024) :
    weight e (ix4 b h i j) = Ideal.div (e (ix4 b h i j)) (∑ j' : Fin 1024, (e (ix4 b h i j') : EReal)) := by
  pointwise [weight]
  rw [keep_at]
  rfl

theorem ctx_at (v : FVec Ideal S2x1024x4x64 .bf16) (w : FVec Ideal S2x4x128x1024 .f32) (b : Fin 2) (i : Fin 128) (f : Fin 256) :
    ctx v w (ix3 b i f) = ∑ j : Fin 1024, (v (ix4 b j ⟨f.val / 64, by omega⟩ ⟨f.val % 64, by omega⟩) : EReal)
      * w (ix4 b ⟨f.val / 64, by omega⟩ i j) := by
  pointwise [ctx]

theorem proj_at (wo : FVec Ideal S256x512 .bf16) (c : FVec Ideal S2x128x256 .f32) (b : Fin 2) (i : Fin 128) (e : Fin 512) :
    proj wo c (ix3 b i e) = ∑ f : Fin 256, (c (ix3 b i f) : EReal) * wo (ix2 f e) := by
  pointwise [proj]

/-- The reference computes the formula. -/
theorem out_at (x : FVec Ideal S2x128x512 .bf16) (wq : FVec Ideal S512x256 .bf16) (k v : FVec Ideal S2x1024x4x64 .bf16)
    (wo : FVec Ideal S256x512 .bf16) (b : Fin 2) (i : Fin 128) (e : Fin 512) :
    out x wq k v wo (ix3 b i e) = Cert.Attn.attn (fun b i t => x (ix3 b i t)) (fun t e => wq (ix2 t e))
      (fun b j h d => k (ix4 b j h d)) (fun b j h d => v (ix4 b j h d)) (fun f e => wo (ix2 f e)) b i e := by
  unfold out Cert.Attn.attn
  simp only [proj_at, ctx_at, weight_at, numer_at, score_at]

end Cert.ReferenceIdeal.Attn
-- ==== Proof.Proto.lean ====
/-
# The protocol: who signals whom, what is handed over, what is owed

Device `c` exchanges with `pw k c` (its index with bit `k` flipped) in round `k` of three. Per device there are seven
semaphore cells, each used for one round:

* the BARRIER cell of `c`, waited on by `c` for 3: duty `k` is one unit, paid by `pw k c`'s entry signal, and hands `c` the
  landing slot `k` of `pw k c` (any contents) together with the fact that `pw k c` stands at round 0 of its receive cell
  `k` — what `c`'s transfer of round `k` needs;
* the SEND cell `k` of `c`, waited on by `c`: one duty of a block's credit, paid by `c`'s own transfer of round `k`, handing
  back the outgoing slot `k`;
* the RECEIVE cell `k` of `c`, waited on by `c`: one duty of a block's credit, paid by `pw k c`'s transfer of round `k`,
  handing `c` its landing slot `k` holding the block `pw k c` sent.

Order: three signals, the barrier wait, then per round transfer, send wait, receive wait. Levels: send cells (and the
staging cells) 0, barrier cells 1, receive cell `k` at `2 + k`; a device waiting on its receive cell `k` owes only receive
cells of later rounds.
-/
module

public import proofs.«01_k».proof.Proof.Values
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The partners -/

/-- The partner of round `k`: bit `k` of the index flipped. -/
def pw (k : Fin 3) (c : Dev nD) : Dev nD :=
  match k with
  | 0 => if c.val % 2 = 0 then ⟨(c.val + 1) % 8, Nat.mod_lt _ (by decide)⟩ else ⟨(c.val + 7) % 8, Nat.mod_lt _ (by decide)⟩
  | 1 => if c.val / 2 % 2 = 0 then ⟨(c.val + 2) % 8, Nat.mod_lt _ (by decide)⟩ else ⟨(c.val + 6) % 8, Nat.mod_lt _ (by decide)⟩
  | 2 => ⟨(c.val + 4) % 8, Nat.mod_lt _ (by decide)⟩

theorem pw_pw (k : Fin 3) (c : Dev nD) : pw k (pw k c) = c := by revert k c; decide

/-- Flipping a bit is its own inverse. -/
def pwEquiv (k : Fin 3) : Dev nD ≃ Dev nD := ⟨pw k, pw k, pw_pw k, pw_pw k⟩

theorem dev1_eq (c : Dev nD) : (⟨k0_dev1 c, k0_dev1_lt c⟩ : Dev nD) = pw 0 c := by revert c; decide
theorem dev2_eq (c : Dev nD) : (⟨k0_dev2 c, k0_dev2_lt c⟩ : Dev nD) = pw 1 c := by revert c; decide
theorem dev3_eq (c : Dev nD) : (⟨k0_dev3 c, k0_dev3_lt c⟩ : Dev nD) = pw 2 c := by revert c; decide
theorem dev4_eq (c : Dev nD) : (⟨k0_dev4 c, k0_dev4_lt c⟩ : Dev nD) = pw 0 c := by revert c; decide
theorem dev5_eq (c : Dev nD) : (⟨k0_dev5 c, k0_dev5_lt c⟩ : Dev nD) = pw 1 c := by revert c; decide
theorem dev6_eq (c : Dev nD) : (⟨k0_dev6 c, k0_dev6_lt c⟩ : Dev nD) = pw 2 c := by revert c; decide

/-! ## The slots and the cells -/

theorem inb_slot (k : Fin 3) : ∀ a, (![k.val, 0, 0, 0] : Fin 4 → ℕ) a + S1x5x128x128.size a ≤ S3x5x128x128.size a := by revert k; decide
theorem inb_sem (k : Fin 3) : ∀ a, (![k.val] : Fin 1 → ℕ) a + S1.size a ≤ S3.size a := by revert k; decide

/-- The rectangle of slot `k` in a buffer of three. -/
abbrev slotRect (k : Fin 3) : Rect S3x5x128x128 := Rect.unit (s := S3x5x128x128) ![k.val, 0, 0, 0] S1x5x128x128.size (inb_slot k)

/-- The outgoing slot of round `k`, -/
abbrev sM (k : Fin 3) : Memref sig .tc .vmem S5x128x128 .bf16 :=
  ((Memref.whole cc0_scratch0).slice (slotRect k) (fun _ => rfl)).squeeze S5x128x128 squeezes_S1x5x128x128_S5x128x128
/-- and the landing slot. -/
abbrev rM (k : Fin 3) : Memref sig .tc .vmem S5x128x128 .bf16 :=
  ((Memref.whole cc0_scratch1).slice (slotRect k) (fun _ => rfl)).squeeze S5x128x128 squeezes_S1x5x128x128_S5x128x128

abbrev barS : Sem sig := (SemArray.scalar (sig.barrier 0 rfl) : Sems sig S_).sem
def sendS (k : Fin 3) : DmaSem sig := ((cc0_scratch2.slice (Rect.unit (s := S3) ![k.val] S1.size (inb_sem k))).squeeze S_ squeezes_S1_S_).sem
def recvS (k : Fin 3) : DmaSem sig := ((cc0_scratch3.slice (Rect.unit (s := S3) ![k.val] S1.size (inb_sem k))).squeeze S_ squeezes_S1_S_).sem

theorem sendS_inj : ∀ k k', sendS k = sendS k' → k = k' := by decide
theorem recvS_inj : ∀ k k', recvS k = recvS k' → k = k' := by decide
theorem sendS_ne_recvS : ∀ k k', sendS k ≠ recvS k' := by decide

/-- The seven kinds of cells of a device. -/
inductive Kd where
  /-- the barrier's -/
  | bar
  /-- the send cell of a round -/
  | send (k : Fin 3)
  /-- the receive cell of a round -/
  | recv (k : Fin 3)
deriving DecidableEq

/-- The kinds, listed. -/
def kinds : List Kd := [.bar, .send 0, .send 1, .send 2, .recv 0, .recv 1, .recv 2]

theorem kinds_nodup : kinds.Nodup := by decide
theorem mem_kinds (k : Kd) : k ∈ kinds := by rcases k with _ | k | k <;> (try fin_cases k) <;> decide

instance : Fintype Kd := ⟨⟨kinds, kinds_nodup⟩, mem_kinds⟩

/-- The semaphore of a cell of that kind. -/
def csem : Kd → SemLoc sig
  | .bar => .reg barS
  | .send k => .dma (sendS k)
  | .recv k => .dma (recvS k)

/-- The kind of a semaphore, if the protocol uses it. -/
def kindOf : SemLoc sig → Option Kd
  | .reg s => if s = barS then some .bar else none
  | .dma q => if q = sendS 0 then some (.send 0) else if q = sendS 1 then some (.send 1) else if q = sendS 2 then some (.send 2)
      else if q = recvS 0 then some (.recv 0) else if q = recvS 1 then some (.recv 1) else if q = recvS 2 then some (.recv 2) else none

theorem kindOf_csem : ∀ k, kindOf (csem k) = some k := by decide
theorem csem_injective : Function.Injective csem := fun a b h => by
  have := congrArg kindOf h; rw [kindOf_csem, kindOf_csem] at this; exact Option.some.inj this

abbrev kcell (ck : Dev nD × Kd) : GSem nD τ sig := ((ck.1 : Thread nD τ), csem ck.2)
abbrev barCell (c : Dev nD) : GSem nD τ sig := ((c : Thread nD τ), .reg barS)
abbrev sendCell (k : Fin 3) (c : Dev nD) : GSem nD τ sig := ((c : Thread nD τ), .dma (sendS k))
abbrev recvCell (k : Fin 3) (c : Dev nD) : GSem nD τ sig := ((c : Thread nD τ), .dma (recvS k))

theorem kindOf_bar : kindOf (.reg barS) = some .bar := kindOf_csem .bar
theorem kindOf_send (k : Fin 3) : kindOf (.dma (sendS k)) = some (.send k) := kindOf_csem (.send k)
theorem kindOf_recv (k : Fin 3) : kindOf (.dma (recvS k)) = some (.recv k) := kindOf_csem (.recv k)

theorem kcell_injective : Function.Injective (kcell : Dev nD × Kd → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The credit of one block's transfer. -/
abbrev N : ℕ := (rM 0).view.dmaCredit
theorem N_pos : 0 < N := View.dmaCredit_pos _ (by decide)

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- What device `c` starts from: its blocks of the arguments as staged. -/
def args (c : Dev nD) : Args F where
  c := c
  x := (win0_0.blk (0 : Fin 1)).view.read (Elt F) (m ((c : Thread nD τ).loc main_arg0))
  wq := (win0_1.blk (0 : Fin 1)).view.read (Elt F) (m ((c : Thread nD τ).loc main_arg1))
  k := (win0_2.blk (0 : Fin 1)).view.read (Elt F) (m ((c : Thread nD τ).loc main_arg2))
  v := (win0_3.blk (0 : Fin 1)).view.read (Elt F) (m ((c : Thread nD τ).loc main_arg3))
  wo := (win0_4.blk (0 : Fin 1)).view.read (Elt F) (m ((c : Thread nD τ).loc main_arg4))

/-- What device `c` receives in the first exchange: its partner's first block; -/
def got0 (c : Dev nD) : Pack F := snd0 (args m (pw 0 c))
/-- in the second: its partner's second, which depends on what the partner received; -/
def got1 (c : Dev nD) : Pack F := snd1 (args m (pw 1 c)) (got0 m (pw 1 c))
/-- in the third. -/
def got2 (c : Dev nD) : Pack F := snd2 (args m (pw 2 c)) (got0 m (pw 2 c)) (got1 m (pw 2 c))

/-- What device `c` receives in round `k`. -/
def got (k : Fin 3) (c : Dev nD) : Pack F := match k with | 0 => got0 m c | 1 => got1 m c | 2 => got2 m c
/-- What device `c` sends in round `k`. -/
def sent (k : Fin 3) (c : Dev nD) : Pack F :=
  match k with | 0 => snd0 (args m c) | 1 => snd1 (args m c) (got0 m c) | 2 => snd2 (args m c) (got0 m c) (got1 m c)

theorem got_pw (k : Fin 3) (c : Dev nD) : got m k (pw k c) = sent m k c := by
  match k with
  | 0 => show snd0 _ = snd0 _; rw [pw_pw]
  | 1 => show snd1 _ _ = snd1 _ _; rw [pw_pw]
  | 2 => show snd2 _ _ _ = snd2 _ _ _; rw [pw_pw]

/-! ## The resources -/

/-- Device `c`'s outgoing slot `k` holding `P`. -/
def sOwn (k : Fin 3) (c : Dev nD) (P : Pack F) : sProp 𝕄 := owns (c : Thread nD τ) (sM k) fullShare P
/-- Device `c`'s landing slot `k` holding `P`. -/
def rOwn (k : Fin 3) (c : Dev nD) (P : Pack F) : sProp 𝕄 := owns (c : Thread nD τ) (rM k) fullShare P
/-- Device `c`'s outgoing slot `k`, any contents. -/
def sAny (k : Fin 3) (c : Dev nD) : sProp 𝕄 := iprop(∃ P, sOwn k c P)
/-- Device `c`'s landing slot `k`, any contents. -/
def rAny (k : Fin 3) (c : Dev nD) : sProp 𝕄 := iprop(∃ P, rOwn k c P)

instance sOwn_storable (k c P) : BI.Storable (upEmb : UEmb _ 𝕄) (sOwn (F := F) k c P) := by unfold sOwn; infer_instance
instance rOwn_storable (k c P) : BI.Storable (upEmb : UEmb _ 𝕄) (rOwn (F := F) k c P) := by unfold rOwn; infer_instance
instance sAny_storable (k c) : BI.Storable (upEmb : UEmb _ 𝕄) (sAny (F := F) k c) := by unfold sAny; infer_instance
instance rAny_storable (k c) : BI.Storable (upEmb : UEmb _ 𝕄) (rAny (F := F) k c) := by unfold rAny; infer_instance

/-! ## The schedule -/

/-- Duty `k` of `c`'s barrier cell hands over the landing slot `k` of the round's partner, and that the partner stands at
    round 0 of its receive cell `k`. -/
def barPay (k : Fin 3) (c : Dev nD) : sProp 𝕄 := iprop(rAny k (pw k c) ∗ reached ER (recvCell k (pw k c)) 0)

/-- One round, round 0: see the head of this file. -/
def sch : Rounds.Schedule (GSem nD τ sig) (Fin 3) 𝕄 where
  duties g r := if r = 0 ∧ g.1.2 = .tc then
      (match kindOf g.2 with | some .bar => Finset.univ | some (.send _) => {0} | some (.recv _) => {0} | none => ∅) else ∅
  unitless _ := False
  amount g _ _ := match kindOf g.2 with | some .bar => 1 | _ => N
  payload g _ d := match kindOf g.2 with
    | some .bar => barPay d g.1.1
    | some (.send k) => sAny k g.1.1
    | some (.recv k) => rOwn k g.1.1 (got m k g.1.1)
    | none => iprop(emp)
  amount_pos g _ _ _ := by
    show 0 < (match kindOf g.2 with | some .bar => 1 | _ => N)
    split
    · exact Nat.one_pos
    · exact N_pos

instance sch_payload_storable (g : GSem nD τ sig) (r : ℕ) (d : Fin 3) :
    BI.Storable (upEmb : UEmb _ 𝕄) ((sch (F := F) m).payload g r d) := by
  show BI.Storable upEmb (match kindOf g.2 with
    | some .bar => barPay d g.1.1
    | some (.send k) => sAny k g.1.1
    | some (.recv k) => rOwn k g.1.1 (got m k g.1.1)
    | none => iprop(emp))
  unfold barPay
  split <;> infer_instance

section Sched
variable (c : Dev nD) (k : Fin 3)

theorem duties_bar : (sch (F := F) m).duties (barCell c) 0 = Finset.univ := by
  dsimp only [sch]; rw [if_pos ⟨rfl, rfl⟩, kindOf_bar]
theorem duties_send : (sch (F := F) m).duties (sendCell k c) 0 = {0} := by
  dsimp only [sch]; rw [if_pos ⟨rfl, rfl⟩, kindOf_send]
theorem duties_recv : (sch (F := F) m).duties (recvCell k c) 0 = {0} := by
  dsimp only [sch]; rw [if_pos ⟨rfl, rfl⟩, kindOf_recv]
theorem duties_later (g : GSem nD τ sig) : ∀ r, 1 ≤ r → (sch (F := F) m).duties g r = ∅ :=
  fun r hr => by dsimp only [sch]; rw [if_neg fun h => by omega]

theorem amount_bar (d : Fin 3) : (sch (F := F) m).amount (barCell c) 0 d = 1 := by dsimp only [sch]; rw [kindOf_bar]
theorem amount_send (d : Fin 3) : (sch (F := F) m).amount (sendCell k c) 0 d = N := by dsimp only [sch]; rw [kindOf_send]
theorem amount_recv (d : Fin 3) : (sch (F := F) m).amount (recvCell k c) 0 d = N := by dsimp only [sch]; rw [kindOf_recv]

theorem expect_bar : (sch (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (sch (F := F) m).expect (sendCell k c) 0 = N := by
  unfold Schedule.expect Schedule.amountOf; rw [duties_send, Finset.sum_singleton, amount_send]
theorem expect_recv : (sch (F := F) m).expect (recvCell k c) 0 = N := by
  unfold Schedule.expect Schedule.amountOf; rw [duties_recv, Finset.sum_singleton, amount_recv]

theorem payload_bar (d : Fin 3) : (sch (F := F) m).payload (barCell c) 0 d = barPay d c := by dsimp only [sch]; rw [kindOf_bar]
theorem payload_send (d : Fin 3) : (sch (F := F) m).payload (sendCell k c) 0 d = sAny k c := by dsimp only [sch]; rw [kindOf_send]
theorem payload_recv (d : Fin 3) : (sch (F := F) m).payload (recvCell k c) 0 d = rOwn k c (got m k c) := by dsimp only [sch]; rw [kindOf_recv]

/-- The whole of the barrier cell's round. -/
theorem rest_bar : bigSep ((sch (F := F) m).duties (barCell c) 0 \ ∅) (fun d => (sch (F := F) m).payload (barCell c) 0 d)
    = iprop(barPay 0 c ∗ barPay 1 c ∗ barPay 2 c) := by
  rw [Finset.sdiff_empty, duties_bar, bigSep_univ_eq_bigSepL [0, 1, 2] (by decide) (by decide), bigSepL_cons_cons, bigSepL_cons_cons,
    bigSepL_singleton, payload_bar, payload_bar, payload_bar]; rfl
theorem rest_send : bigSep ((sch (F := F) m).duties (sendCell k c) 0 \ ∅) (fun d => (sch (F := F) m).payload (sendCell k c) 0 d) = sAny k c := by
  rw [Finset.sdiff_empty, duties_send, bigSep_singleton, payload_send]
theorem rest_recv : bigSep ((sch (F := F) m).duties (recvCell k c) 0 \ ∅) (fun d => (sch (F := F) m).payload (recvCell k c) 0 d)
    = rOwn k c (got m k c) := by
  rw [Finset.sdiff_empty, duties_recv, bigSep_singleton, payload_recv]

end Sched

/-! ## What is owed, and the levels -/

/-- What device `c`'s transfer of round `k` pays. -/
abbrev oR (k : Fin 3) (c : Dev nD) : CellTallies nD τ sig Unit := tallyAt (recvCell k (pw k c)) () N
/-- What its entry signal `k` pays. -/
abbrev oB (k : Fin 3) (c : Dev nD) : CellTallies nD τ sig Unit := tallyAt (barCell (pw k c)) () 1

/-- What is owed before the second and the first transfer, and before the third, the second and the first signal. -/
def O₂ (c : Dev nD) : CellTallies nD τ sig Unit := oR 2 c + oR 1 c
def O₃ (c : Dev nD) : CellTallies nD τ sig Unit := O₂ c + oR 0 c
def O₄ (c : Dev nD) : CellTallies nD τ sig Unit := O₃ c + oB 2 c
def O₅ (c : Dev nD) : CellTallies nD τ sig Unit := O₄ c + oB 1 c
/-- What device `c` owes at launch. -/
def O₀ (c : Dev nD) : CellTallies nD τ sig Unit := O₅ c + oB 0 c

def L (g : GSem nD τ sig) : Finset Unit := if g.1.2 = .tc then {()} else ∅
def lv (g : GSem nD τ sig) (_ : Unit) : ℕ := match kindOf g.2 with | some .bar => 1 | some (.recv k) => 2 + k.val | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u) : lv (barCell c) u = 1 := by unfold lv; rw [kindOf_bar]
theorem lv_send (k c u) : lv (sendCell k c) u = 0 := by unfold lv; rw [kindOf_send]
theorem lv_recv (k c u) : lv (recvCell k c) u = 2 + k.val := by unfold lv; rw [kindOf_recv]

/-- Everything owed under `O` is owed to TensorCore cells above level `n`. -/
def Over (n : ℕ) (O : CellTallies nD τ sig Unit) : Prop := ∀ g u, 0 < O g u → g.1.2 = .tc ∧ n < lv g u

theorem over_zero (n) : Over n 0 := fun g u h => absurd h (Nat.lt_irrefl 0)
theorem over_add {n A B} (hA : Over n A) (hB : Over n B) : Over n (A + B) := fun g u h => by
  rw [Pi.add_apply, Finsupp.add_apply] at h
  rcases Nat.eq_zero_or_pos (A g u) with h0 | h0
  · exact hB g u (by omega)
  · exact hA g u h0
theorem over_tally {n : ℕ} {c : Dev nD} {sm : SemLoc sig} {w : ℕ} (h : n < lv ((c : Thread nD τ), sm) ()) :
    Over n (tallyAt ((c : Thread nD τ), sm) () w) := fun g u hg => by
  rw [tallyAt_apply] at hg
  by_cases h' : g = ((c : Thread nD τ), sm) ∧ u = ()
  · rw [h'.1]; exact ⟨rfl, h⟩
  · rw [if_neg h'] at hg; exact absurd hg (Nat.lt_irrefl 0)
theorem over_oR {n : ℕ} (k : Fin 3) (c : Dev nD) (h : n < 2 + k.val) : Over n (oR k c) := over_tally (by rw [show lv _ _ = lv (recvCell k (pw k c)) () from rfl, lv_recv]; exact h)
theorem over_oB {n : ℕ} (k : Fin 3) (c : Dev nD) (h : n < 1) : Over n (oB k c) := over_tally (by rw [show lv _ _ = lv (barCell (pw k c)) () from rfl, lv_bar]; exact h)
theorem over_O₂ {n : ℕ} (c : Dev nD) (h : n < 3) : Over n (O₂ c) := over_add (over_oR 2 c (by omega)) (over_oR 1 c (by omega))
theorem over_O₃ {n : ℕ} (c : Dev nD) (h : n < 2) : Over n (O₃ c) := over_add (over_O₂ c (by omega)) (over_oR 0 c (by omega))
theorem over_O₀ (c : Dev nD) : Over 0 (O₀ c) :=
  over_add (over_add (over_add (over_O₃ c (by omega)) (over_oB 2 c (by omega))) (over_oB 1 c (by omega))) (over_oB 0 c (by omega))

/-- A wait at a cell at or below `n` may happen while everything owed lies above `n`. -/
theorem mayWait_of (n : ℕ) (c : Dev nD) (sm : SemLoc sig) (O : CellTallies nD τ sig Unit) (hs : lv ((c : Thread nD τ), sm) () ≤ n) (hO : Over n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

end Cert.KernelIdeal.Attn

end
-- ==== Proof.Slots.lean ====
/-
# The slots of the two exchange buffers

A buffer of three slots is its three slots (`sSplit`, `rSplit`, and joined again `sJoin`, `rJoin`); what the kernel's loads
and stores do to a slot (`wp_load_slot`, `wp_store_slot`, `wp_load_tile`); and its transfers and waits at the protocol's cells
(`wp_send_round`, `wp_wait_send`, `wp_wait_recv`).
-/
module

public import proofs.«01_k».proof.Proof.Proto
public import Idealize.ShloMosaic.Lib.Pipeline.ValueKit.Geometry

@[expose] public section

noncomputable section

namespace Cert.KernelIdeal.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program of device `c`'s TensorCore. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Three slots -/

theorem slot_set_s (k : Fin 3) : (sM k).view.set = (slotRect k).set := (View.set_reshape _ _).trans (View.set_slice_whole _ _)
theorem slot_set_r (k : Fin 3) : (rM k).view.set = (slotRect k).set := (View.set_reshape _ _).trans (View.set_slice_whole _ _)

/-- A slot's indices are those with its number in front. -/
theorem mem_slot (k : Fin 3) (i : S3x5x128x128.Idx) : i ∈ (slotRect k).set ↔ (i 0).val = k.val := by
  rw [Rect.mem_set_unit]
  constructor
  · intro h
    have h0 := h 0
    have h1 : k.val ≤ (i 0).val := h0.1
    have h2 : (i 0).val < k.val + 1 := h0.2
    omega
  · intro h a
    match a with
    | ⟨0, _⟩ => exact ⟨le_of_eq h.symm, lt_of_eq_of_lt h (Nat.lt_succ_self _)⟩
    | ⟨1, _⟩ => exact ⟨Nat.zero_le _, lt_of_lt_of_eq (i 1).isLt (Nat.zero_add _).symm⟩
    | ⟨2, _⟩ => exact ⟨Nat.zero_le _, lt_of_lt_of_eq (i 2).isLt (Nat.zero_add _).symm⟩
    | ⟨3, _⟩ => exact ⟨Nat.zero_le _, lt_of_lt_of_eq (i 3).isLt (Nat.zero_add _).symm⟩

theorem slot_disjoint {k k' : Fin 3} (h : k ≠ k') : Disjoint (slotRect k).set (slotRect k').set :=
  Finset.disjoint_left.mpr fun i hi hi' => h (Fin.ext (((mem_slot k i).mp hi).symm.trans ((mem_slot k' i).mp hi')))
theorem slot_disjoint2 : Disjoint (slotRect 0).set ((slotRect 1).set ∪ (slotRect 2).set) :=
  Finset.disjoint_union_right.mpr ⟨slot_disjoint (by decide), slot_disjoint (by decide)⟩
theorem slot_union : (slotRect 0).set ∪ ((slotRect 1).set ∪ (slotRect 2).set) = Finset.univ := by
  ext i
  simp only [Finset.mem_union, mem_slot, Finset.mem_univ, iff_true]
  have : (i 0).val < 3 := (i 0).isLt
  show (i 0).val = 0 ∨ (i 0).val = 1 ∨ (i 0).val = 2
  omega

/-- A slot's points-to owns the slot at what it reads. -/
theorem sOwn_intro (k : Fin 3) (c : Dev nD) (f : Buf (Elt F) (((c : Dev nD) : Thread nD τ).loc cc0_scratch0)) :
    ((((c : Thread nD τ).loc cc0_scratch0) ↦[(slotRect k).set]{fullShare} f) : sProp 𝕄) ⊢ sOwn k c ((sM k).view.read (Elt F) f) := by
  rw [← slot_set_s]; exact owns_intro (c : Thread nD τ) (sM k) fullShare f
theorem rOwn_intro (k : Fin 3) (c : Dev nD) (f : Buf (Elt F) (((c : Dev nD) : Thread nD τ).loc cc0_scratch1)) :
    ((((c : Thread nD τ).loc cc0_scratch1) ↦[(slotRect k).set]{fullShare} f) : sProp 𝕄) ⊢ rOwn k c ((rM k).view.read (Elt F) f) := by
  rw [← slot_set_r]; exact owns_intro (c : Thread nD τ) (rM k) fullShare f
theorem sOwn_elim (k : Fin 3) (c : Dev nD) (P : Pack F) :
    (sOwn k c P : sProp 𝕄) ⊢ iprop(∃ f : Buf (Elt F) (((c : Dev nD) : Thread nD τ).loc cc0_scratch0),
      ⌜(sM k).view.read (Elt F) f = P⌝ ∗ (((c : Thread nD τ).loc cc0_scratch0) ↦[(slotRect k).set]{fullShare} f)) := by
  rw [← slot_set_s]; unfold sOwn owns; exact .rfl
theorem rOwn_elim (k : Fin 3) (c : Dev nD) (P : Pack F) :
    (rOwn k c P : sProp 𝕄) ⊢ iprop(∃ f : Buf (Elt F) (((c : Dev nD) : Thread nD τ).loc cc0_scratch1),
      ⌜(rM k).view.read (Elt F) f = P⌝ ∗ (((c : Thread nD τ).loc cc0_scratch1) ↦[(slotRect k).set]{fullShare} f)) := by
  rw [← slot_set_r]; unfold rOwn owns; exact .rfl

theorem sSplit (c : Dev nD) (f : Buf (Elt F) (((c : Dev nD) : Thread nD τ).loc cc0_scratch0)) :
    ((((c : Thread nD τ).loc cc0_scratch0) ↦{fullShare} f) : sProp 𝕄) ⊢ iprop(sAny 0 c ∗ sAny 1 c ∗ sAny 2 c) := by
  rw [← slot_union]
  refine (pointsTo_union slot_disjoint2).1.trans ((sep_mono_right (pointsTo_union (slot_disjoint (by decide))).1).trans ?_)
  unfold sAny
  iintro ⟨H0, H1, H2⟩
  isplitl [H0]; · iexists _; iapply (sOwn_intro 0 c f); iexact H0
  isplitl [H1]; · iexists _; iapply (sOwn_intro 1 c f); iexact H1
  iexists _; iapply (sOwn_intro 2 c f); iexact H2
theorem rSplit (c : Dev nD) (f : Buf (Elt F) (((c : Dev nD) : Thread nD τ).loc cc0_scratch1)) :
    ((((c : Thread nD τ).loc cc0_scratch1) ↦{fullShare} f) : sProp 𝕄) ⊢ iprop(rAny 0 c ∗ rAny 1 c ∗ rAny 2 c) := by
  rw [← slot_union]
  refine (pointsTo_union slot_disjoint2).1.trans ((sep_mono_right (pointsTo_union (slot_disjoint (by decide))).1).trans ?_)
  unfold rAny
  iintro ⟨H0, H1, H2⟩
  isplitl [H0]; · iexists _; iapply (rOwn_intro 0 c f); iexact H0
  isplitl [H1]; · iexists _; iapply (rOwn_intro 1 c f); iexact H1
  iexists _; iapply (rOwn_intro 2 c f); iexact H2
theorem sJoin (c : Dev nD) : iprop(sAny 0 c ∗ sAny 1 c ∗ sAny 2 c)
    ⊢ (iprop(∃ f : Buf (Elt F) (((c : Dev nD) : Thread nD τ).loc cc0_scratch0), (((c : Thread nD τ).loc cc0_scratch0) ↦{fullShare} f)) : sProp 𝕄) := by
  rw [← slot_union]
  unfold sAny
  iintro ⟨⟨%P0, H0⟩, ⟨%P1, H1⟩, ⟨%P2, H2⟩⟩
  ihave H0 := (sOwn_elim 0 c P0) $$ H0
  icases H0 with ⟨%f0, -, H0⟩
  ihave H1 := (sOwn_elim 1 c P1) $$ H1
  icases H1 with ⟨%f1, -, H1⟩
  ihave H2 := (sOwn_elim 2 c P2) $$ H2
  icases H2 with ⟨%f2, -, H2⟩
  ihave H := (pointsTo_join (ℓ := (c : Thread nD τ).loc cc0_scratch0) (I := (slotRect 1).set) (J := (slotRect 2).set) (slot_disjoint (by decide))) $$ [H1 H2]
  · isplitl [H1] <;> iassumption
  ihave H' := (pointsTo_join (ℓ := (c : Thread nD τ).loc cc0_scratch0) (I := (slotRect 0).set) slot_disjoint2) $$ [H0 H]
  · isplitl [H0] <;> iassumption
  iexists _; iexact H'
theorem rJoin (c : Dev nD) : iprop(rAny 0 c ∗ rAny 1 c ∗ rAny 2 c)
    ⊢ (iprop(∃ f : Buf (Elt F) (((c : Dev nD) : Thread nD τ).loc cc0_scratch1), (((c : Thread nD τ).loc cc0_scratch1) ↦{fullShare} f)) : sProp 𝕄) := by
  rw [← slot_union]
  unfold rAny
  iintro ⟨⟨%P0, H0⟩, ⟨%P1, H1⟩, ⟨%P2, H2⟩⟩
  ihave H0 := (rOwn_elim 0 c P0) $$ H0
  icases H0 with ⟨%f0, -, H0⟩
  ihave H1 := (rOwn_elim 1 c P1) $$ H1
  icases H1 with ⟨%f1, -, H1⟩
  ihave H2 := (rOwn_elim 2 c P2) $$ H2
  icases H2 with ⟨%f2, -, H2⟩
  ihave H := (pointsTo_join (ℓ := (c : Thread nD τ).loc cc0_scratch1) (I := (slotRect 1).set) (J := (slotRect 2).set) (slot_disjoint (by decide))) $$ [H1 H2]
  · isplitl [H1] <;> iassumption
  ihave H' := (pointsTo_join (ℓ := (c : Thread nD τ).loc cc0_scratch1) (I := (slotRect 0).set) slot_disjoint2) $$ [H0 H]
  · isplitl [H0] <;> iassumption
  iexists _; iexact H'

/-! ## Loads and stores -/

/-- A rectangle's elements of a whole buffer are its indices. -/
theorem setOn_s (r : Rect S3x5x128x128) : (Memref.whole cc0_scratch0).view.setOn r.set = r.set :=
  (View.set_slice (v := View.whole cc0_scratch0) r).symm.trans (View.set_slice_whole cc0_scratch0 r)
theorem setOn_r (r : Rect S3x5x128x128) : (Memref.whole cc0_scratch1).view.setOn r.set = r.set :=
  (View.set_slice (v := View.whole cc0_scratch1) r).symm.trans (View.set_slice_whole cc0_scratch1 r)

section Steps
variable {α : Type} (c : Dev nD) (k : Fin 3)

/-- A load of an outgoing slot at any contents gives any vector. -/
theorem wp_load_slot {off : Fin 4 → ℕ} (hoff : off = ![k.val, 0, 0, 0]) {inb} {hl}
    {kk : Vec F S1x5x128x128 .bf16 → Prog (TpuEff nD τ sig (Elt F) Λ₀ .tc) α} {Q : α → sProp 𝕄} :
    (sAny k c : sProp 𝕄) ⊢ iprop((∀ v, sAny k c -∗ WP c (kk v) Q)
      -∗ WP c (.op (.load (Memref.whole cc0_scratch0) (Rect.unit (s := S3x5x128x128) off S1x5x128x128.size inb).toLoadRect hl) kk) Q) := by
  subst hoff
  unfold sAny
  iintro ⟨%P, H⟩ Hk
  ihave H := (sOwn_elim k c P) $$ H
  icases H with ⟨%f, -, H⟩
  iapply (wp_load 𝒱₀ (c : Thread nD τ) none Set.univ (m := Memref.whole cc0_scratch0)
    (S := (slotRect k).set) (setOn_s _).subset) $$ H
  iintro H
  iapply Hk
  iexists _; iapply (sOwn_intro k c f); iexact H

/-- A store of `w` to an outgoing slot leaves it holding `w` without its leading unit axis. -/
theorem wp_store_slot {off : Fin 4 → ℕ} (hoff : off = ![k.val, 0, 0, 0]) {inb} {w : FVec F S1x5x128x128 .bf16} {hx} {hm}
    {kk : PUnit → Prog (TpuEff nD τ sig (Elt F) Λ₀ .tc) α} {Q : α → sProp 𝕄} :
    (sAny k c : sProp 𝕄) ⊢ iprop((sOwn k c (flat w) -∗ WP c (kk ⟨⟩) Q)
      -∗ WP c (.op (.store (Memref.whole cc0_scratch0) (Rect.unit (s := S3x5x128x128) off S1x5x128x128.size inb) w Finset.univ hx hm) kk) Q) := by
  subst hoff
  unfold sAny
  iintro ⟨%P, H⟩ Hk
  ihave H := (sOwn_elim k c P) $$ H
  icases H with ⟨%f, -, H⟩
  iapply (wp_store 𝒱₀ (c : Thread nD τ) none Set.univ (m := Memref.whole cc0_scratch0) (r := slotRect k)
    (S := (slotRect k).set) (View.set_slice_whole cc0_scratch0 (slotRect k)).subset) $$ H
  iintro H
  iapply Hk
  have hr : (sM k).view.read (Elt F) (((Memref.whole cc0_scratch0).access (slotRect k)).write (Elt F) f w Finset.univ) = flat w := by
    have := View.read_write_univ (v := (Memref.whole cc0_scratch0).access (slotRect k)) (Val := Elt F) f w
    funext i
    show ((Memref.whole cc0_scratch0).access (slotRect k)).read (Elt F) _ (Shape.reshapeEquiv _ i) = w (Shape.reshapeEquiv _ i)
    rw [this]
  rw [← hr]
  iapply (sOwn_intro k c _); iexact H

theorem tile_sub (t : Fin 5) {inb} :
    (Rect.unit (s := S3x5x128x128) ![k.val, t.val, 0, 0] S1x1x128x128.size inb).set ⊆ (slotRect k).set := fun i hi => by
  rw [mem_slot]
  have h0 := Rect.mem_set_unit.mp hi 0
  have h1 : k.val ≤ (i 0).val := h0.1
  have h2 : (i 0).val < k.val + 1 := h0.2
  omega

/-- What a tile's load reads of the landing buffer, by what the slot reads. -/
theorem read_tile (t : Fin 5) {inb} (f : Buf (Elt F) (((c : Dev nD) : Thread nD τ).loc cc0_scratch1)) :
    (Memref.whole cc0_scratch1 : Memref sig .tc .vmem S3x5x128x128 .bf16).view.readAt (Elt F)
      (Rect.unit (s := S3x5x128x128) ![k.val, t.val, 0, 0] S1x1x128x128.size inb).toLoadRect f = tile t ((rM k).view.read (Elt F) f) := by
  funext i
  have hi : (slotRect k).emb (Shape.reshapeEquiv squeezes_S1x5x128x128_S5x128x128.numel_eq (ix3 t (i 2) (i 3)))
      = (Rect.unit (s := S3x5x128x128) ![k.val, t.val, 0, 0] S1x1x128x128.size inb).emb i := by
    refine (congrArg _ (reshapeEquiv_ix3_1abc _ t (i 2) (i 3))).trans ?_
    refine funext fun a => Fin.ext ((ValueKit.rect_emb_unit_val _ _ _ _ _).trans (Eq.trans ?_ (ValueKit.rect_emb_unit_val _ _ _ _ _).symm))
    have h0 : (i 0).val < 1 := (i 0).isLt
    have h1 : (i 1).val < 1 := (i 1).isLt
    match a with
    | ⟨0, _⟩ => show k.val + 0 = k.val + (i 0).val; omega
    | ⟨1, _⟩ => show 0 + t.val = t.val + (i 1).val; omega
    | ⟨2, _⟩ => rfl
    | ⟨3, _⟩ => rfl
  show f _ = f _
  exact congrArg f hi.symm

/-- A load of tile `t` of a landing slot holding `P` gives `tile t P`. -/
theorem wp_load_tile (t : Fin 5) (P : Pack F) {off : Fin 4 → ℕ} (hoff : off = ![k.val, t.val, 0, 0]) {inb} {hl}
    {kk : Vec F S1x1x128x128 .bf16 → Prog (TpuEff nD τ sig (Elt F) Λ₀ .tc) α} {Q : α → sProp 𝕄} :
    (rOwn k c P : sProp 𝕄) ⊢ iprop((rOwn k c P -∗ WP c (kk (tile t P)) Q)
      -∗ WP c (.op (.load (Memref.whole cc0_scratch1) (Rect.unit (s := S3x5x128x128) off S1x1x128x128.size inb).toLoadRect hl) kk) Q) := by
  subst hoff
  iintro H Hk
  ihave H := (rOwn_elim k c P) $$ H
  icases H with ⟨%f, %hf, H⟩
  iapply (wp_load 𝒱₀ (c : Thread nD τ) none Set.univ (m := Memref.whole cc0_scratch1)
    (S := (slotRect k).set) ((setOn_r _).subset.trans (tile_sub k t))) $$ H
  iintro H
  rw [read_tile c k t f, hf]
  iapply Hk
  rw [← hf]
  iapply (rOwn_intro k c f); iexact H

end Steps

end Cert.KernelIdeal.Attn

end
-- ==== Proof.Steps.lean ====
/-
# The protocol's steps

The five remote steps at the protocol's cells, each with everything it takes and gives: the entry signal of a round, the
barrier wait, a round's transfer, the wait on its send cell and the wait on its receive cell (`wp_signal_round`,
`wp_wait_bar`, `wp_send_round`, `wp_wait_send`, `wp_wait_recv`).
-/
module

public import proofs.«01_k».proof.Proof.Slots

@[expose] public section

noncomputable section

namespace Cert.KernelIdeal.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- Every cell's invariant, under the names `K` the launch allocated them at, and that every cell is at round 0. -/
def records (K : Dev nD × Kd → ℕ) : sProp 𝕄 :=
  iprop((bigSep Finset.univ fun ck : Dev nD × Kd => cellInv ER (sch m) (K ck) (kcell ck))
    ∗ bigSep Finset.univ fun ck : Dev nD × Kd => reached ER (kcell ck) 0)

instance records_persistent (K : Dev nD × Kd → ℕ) : BI.Persistent (records m K) := by unfold records; infer_instance

theorem inv_at (K : Dev nD × Kd → ℕ) (ck : Dev nD × Kd) : records m K ⊢ cellInv ER (sch m) (K ck) (kcell ck) := by
  have h : (bigSep Finset.univ fun ck : Dev nD × Kd => (cellInv ER (sch m) (K ck) (kcell ck) : sProp 𝕄)) ⊢ cellInv ER (sch m) (K ck) (kcell ck) :=
    bigSep_elim (Finset.mem_univ ck)
  unfold records
  iintro ⟨H, -⟩
  iapply h; iexact H
theorem reached_at (K : Dev nD × Kd → ℕ) (ck : Dev nD × Kd) : records m K ⊢ reached ER (kcell ck) 0 := by
  have h : (bigSep Finset.univ fun ck : Dev nD × Kd => (reached ER (kcell ck) 0 : sProp 𝕄)) ⊢ reached ER (kcell ck) 0 :=
    bigSep_elim (Finset.mem_univ ck)
  unfold records
  iintro ⟨-, H⟩
  iapply h; iexact H

theorem inv_bar (K) (c : Dev nD) : records m K ⊢ cellInv ER (sch m) (K (c, .bar)) (barCell c) := inv_at m K (c, .bar)
theorem inv_send (K) (c : Dev nD) (k : Fin 3) : records m K ⊢ cellInv ER (sch m) (K (c, .send k)) (sendCell k c) := inv_at m K (c, .send k)
theorem inv_recv (K) (c : Dev nD) (k : Fin 3) : records m K ⊢ cellInv ER (sch m) (K (c, .recv k)) (recvCell k c) := inv_at m K (c, .recv k)
theorem reached_bar (K) (c : Dev nD) : records m K ⊢ reached ER (barCell c) 0 := reached_at m K (c, .bar)
theorem reached_send (K) (c : Dev nD) (k : Fin 3) : records m K ⊢ reached ER (sendCell k c) 0 := reached_at m K (c, .send k)
theorem reached_recv (K) (c : Dev nD) (k : Fin 3) : records m K ⊢ reached ER (recvCell k c) 0 := reached_at m K (c, .recv k)

/-- Device `c` owes exactly `O`. -/
def owe (c : Dev nD) (O : CellTallies nD τ sig Unit) : sProp 𝕄 := iprop(∃ W, owes (c : Thread nD τ) O W)

/-- The entry signal of round `k`: the landing slot `k` goes to the round's partner. -/
theorem wp_signal_round (K : Dev nD × Kd → ℕ) (c n : Dev nD) (k : Fin 3) (hn : n = pw k c) (O₁ O : CellTallies nD τ sig Unit) (hO : O₁ = O + oB k c)
    {α : Type} {Q : α → sProp 𝕄} {kk : PUnit → Prog (TpuEff nD τ sig (Elt F) Λ₀ .tc) α} :
    iprop(records m K ∗ owe c O₁ ∗ dutyTok ER (barCell (pw k c)) 0 k ∗ rAny k c)
      ⊢ iprop((owe c O -∗ WP c (kk ⟨⟩) Q) -∗ WP c (.op (.semSignal (n, .tc) barS (1#32).toInt) kk) Q) := by
  subst hn; subst hO
  unfold owe
  iintro ⟨#HR, ⟨%W, HO⟩, Ht, Hr⟩ Hk
  iapply (Rounds.wp_signal 𝒱₀ ER (sch m) (c : Thread nD τ) none (dst := (pw k c : Thread nD τ)) (κ := K (pw k c, .bar)) (r := 0)
      (d := k) (k' := 1) (by rw [duties_bar]; exact Finset.mem_univ _) (amount_bar m (pw k c) k) () O rfl) $$ [HO Ht Hr]
  · isplitr; · iapply (inv_bar m K (pw k c)); iexact HR
    isplitl [HO]; · iexact HO
    isplitl [Ht]; · iexact Ht
    isplitl [Hr]
    · rw [payload_bar]; unfold barPay; rw [pw_pw]
      isplitl [Hr]; · iexact Hr
      iapply (reached_recv m K (c) k); iexact HR
    · iapply (reached_bar m K (pw k c)); iexact HR
  iintro HO
  iapply Hk
  iexists W; iexact HO

/-- The barrier wait: every partner's landing slot comes with it. -/
theorem wp_wait_bar (K : Dev nD × Kd → ℕ) (c : Dev nD) (O : CellTallies nD τ sig Unit) (hO : Over 1 O)
    {α : Type} {Q : α → sProp 𝕄} {kk : PUnit → Prog (TpuEff nD τ sig (Elt F) Λ₀ .tc) α} :
    iprop(records m K ∗ levAts L lv ∗ cred (tallyAt (barCell c) () 3) ∗ owe c O ∗ atPos ER (barCell c) 0 ∅ 0)
      ⊢ iprop(((owe c O ∗ semVal (barCell c) 0 ∗ rAny 0 (pw 0 c) ∗ rAny 1 (pw 1 c) ∗ rAny 2 (pw 2 c)) -∗ WP c (kk ⟨⟩) Q)
        -∗ WP c (.op (.semWait barS (3#32).toInt) kk) Q) := by
  unfold owe
  iintro ⟨#HR, #Hlev, Hc, ⟨%W, HO⟩, Hat⟩ Hk
  iapply (Rounds.wp_wait_rest_token 𝒱₀ ER (sch m) (c : Thread nD τ) none (κ := K (c, .bar))
      (wpE_semWait_eq 𝒱₀ (c : Thread nD τ) none Set.univ) (Set.mem_univ _) () (O := O) (W := W) (R := 0) (m := 0) (T := ∅)
      (by rw [expect_bar]; decide)) $$ [Hc HO Hat]
  · isplitr; · iapply (inv_bar m K (c)); iexact HR
    isplitl [Hc]; · iexact Hc
    isplitl [HO]; · iexact HO
    isplitr; · iapply (mayWait_of 1 c (.reg barS) O (le_of_eq (lv_bar c ())) hO); iexact Hlev
    iexact Hat
  iintro ⟨HO, Hat, -, Hpay⟩
  ihave Hp := (Entails.of_eq (rest_bar m c)) $$ Hpay
  unfold barPay
  icases Hp with ⟨⟨H0, -⟩, ⟨H1, -⟩, ⟨H2, -⟩⟩
  imod (Rounds.cell_close ER (sch m) (Set.mem_univ (K (c, .bar))) (fun h => h) (R := 0 + 1) (duties_later m (barCell c))) $$ [Hat] with Hz
  · isplitr; · iapply (inv_bar m K (c)); iexact HR
    iexact Hat
  iapply Hk
  isplitl [HO]; · iexists _; iexact HO
  isplitl [Hz]; · iexact Hz
  isplitl [H0]; · iexact H0
  isplitl [H1] <;> iassumption

/-- What a transfer gives back on its send cell: the outgoing slot; -/
theorem send_pays (c : Dev nD) (k : Fin 3) (fs : Buf (Elt F) ((sM k).view.loc (c : Thread nD τ))) :
    ((sM k).view.loc (c : Thread nD τ) ↦[(sM k).view.set]{fullShare} fs : sProp 𝕄) ⊢ (sch m).payload (sendCell k c) 0 0 := by
  rw [payload_send]
  unfold sAny sOwn
  iintro H; iexists _; iapply (owns_intro (c : Thread nD τ) (sM k) fullShare fs); iexact H

/-- and what it leaves on the receive cell: the partner's landing slot with the block sent. -/
theorem recv_pays (c : Dev nD) (k : Fin 3) (fs : Buf (Elt F) ((sM k).view.loc (c : Thread nD τ))) (fd : Buf (Elt F) ((rM k).view.loc (pw k c : Thread nD τ)))
    (hfs : (sM k).view.read (Elt F) fs = sent m k c) :
    ((rM k).view.loc (pw k c : Thread nD τ) ↦[(rM k).view.set]{fullShare} ((rM k).view.write (Elt F) fd ((sM k).view.read (Elt F) fs) Finset.univ) : sProp 𝕄)
      ⊢ (sch m).payload (recvCell k (pw k c)) 0 0 := by
  rw [payload_recv, got_pw, ← hfs]
  have := owns_intro (Ix := Unit) (Name := ℕ) (U := UU) (Lvl := ℕ) (pw k c : Thread nD τ) (rM k) fullShare ((rM k).view.write (Elt F) fd ((sM k).view.read (Elt F) fs) Finset.univ)
  rw [View.read_write_univ] at this; exact this

/-- The transfer of round `k` over the two slots' points-tos. -/
theorem wp_send_slots (K : Dev nD × Kd → ℕ) (c : Dev nD) (k : Fin 3) (O : CellTallies nD τ sig Unit) (W : Waits sig Unit)
    (fs : Buf (Elt F) ((sM k).view.loc (c : Thread nD τ))) (fd : Buf (Elt F) ((rM k).view.loc (pw k c : Thread nD τ)))
    (hfs : (sM k).view.read (Elt F) fs = sent m k c)
    {hsc : (rM k).view.ref.isScScratch = false} {hsrc : (sM k).view.WordExact} {hdst : (rM k).view.WordExact}
    {hsem : DmaTarget.Typed .vmem (.dma (recvS k)) (.remote (Dev.tc (pw k c) : Thread nD τ) (rM k : Memref sig .tc .vmem S5x128x128 .bf16) (.dma (sendS k)) hsc)}
    {α : Type} {Q : α → sProp 𝕄} {kk : PUnit → Prog (TpuEff nD τ sig (Elt F) Λ₀ .tc) α} :
    iprop(cellInv ER (sch m) (K (c, .send k)) (sendCell k c) ∗ cellInv ER (sch m) (K (pw k c, .recv k)) (recvCell k (pw k c))
        ∗ ((sM k).view.loc (c : Thread nD τ) ↦[(sM k).view.set]{fullShare} fs) ∗ ((rM k).view.loc (pw k c : Thread nD τ) ↦[(rM k).view.set]{fullShare} fd)
        ∗ owes (c : Thread nD τ) (O + oR k c) W
        ∗ dutyTok ER (sendCell k c) 0 0 ∗ reached ER (sendCell k c) 0
        ∗ dutyTok ER (recvCell k (pw k c)) 0 0 ∗ reached ER (recvCell k (pw k c)) 0)
      ⊢ iprop(((cred (tallyAt (sendCell k c) () N) ∗ owes (c : Thread nD τ) O W) -∗ WP c (kk ⟨⟩) Q)
          -∗ WP c (.op (.enqueueDma (sM k) (.remote (Dev.tc (pw k c) : Thread nD τ) (rM k) (.dma (sendS k)) hsc) (.dma (recvS k)) hsrc hdst hsem) kk) Q) :=
  Rounds.wp_send_pointsTo 𝒱₀ ER (sch m) (c : Thread nD τ) none (κ₁ := K (c, .send k)) (κ₂ := K (pw k c, .recv k))
    (r₁ := 0) (r₂ := 0) (d₁ := 0) (d₂ := 0) (fd := fd)
    (by rw [duties_send]; exact Finset.mem_singleton_self _) (by rw [duties_recv]; exact Finset.mem_singleton_self _)
    () () N rfl (amount_send m c k 0) (amount_recv m (pw k c) k 0) O rfl (W := W)
    (send_pays m c k fs) (recv_pays m c k fs fd hfs)

/-- The transfer of round `k`: the outgoing slot's block to the partner's landing slot. -/
theorem wp_send_round (K : Dev nD × Kd → ℕ) (c n : Dev nD) (k : Fin 3) (hn : n = pw k c) (O₁ O : CellTallies nD τ sig Unit) (hO : O₁ = O + oR k c)
    {src dst : Memref sig .tc .vmem S5x128x128 .bf16} (hs : src = sM k) (hd : dst = rM k) {q q' : DmaSem sig} (hq : q = sendS k) (hq' : q' = recvS k)
    {hsc : dst.view.ref.isScScratch = false} {hsrc : src.view.WordExact} {hdst : dst.view.WordExact}
    {hsem : DmaTarget.Typed .vmem (.dma q') (.remote (Dev.tc n : Thread nD τ) dst (.dma q) hsc)}
    {α : Type} {Q : α → sProp 𝕄} {kk : PUnit → Prog (TpuEff nD τ sig (Elt F) Λ₀ .tc) α} :
    iprop(records m K ∗ owe c O₁ ∗ sOwn k c (sent m k c) ∗ rAny k (pw k c) ∗ dutyTok ER (sendCell k c) 0 0 ∗ dutyTok ER (recvCell k (pw k c)) 0 0)
      ⊢ iprop(((owe c O ∗ cred (tallyAt (sendCell k c) () N)) -∗ WP c (kk ⟨⟩) Q)
          -∗ WP c (.op (.enqueueDma src (.remote (Dev.tc n : Thread nD τ) dst (.dma q) hsc) (.dma q') hsrc hdst hsem) kk) Q) := by
  subst hn; subst hO; subst hs; subst hd; subst hq; subst hq'
  unfold owe sOwn rAny rOwn owns
  iintro ⟨#HR, ⟨%W, HO⟩, ⟨%fs, %hfs, Hs⟩, ⟨%P, %fd, %hfd, Hd⟩, Ht, Ht'⟩ Hk
  iapply (wp_send_slots m K c k O W fs fd hfs) $$ [HO Hs Hd Ht Ht']
  · isplitr; · iapply (inv_send m K c k); iexact HR
    isplitr; · iapply (inv_recv m K (pw k c) k); iexact HR
    isplitl [Hs]; · iexact Hs
    isplitl [Hd]; · iexact Hd
    isplitl [HO]; · iexact HO
    isplitl [Ht]; · iexact Ht
    isplitr; · iapply (reached_send m K c k); iexact HR
    isplitl [Ht']; · iexact Ht'
    iapply (reached_recv m K (pw k c) k); iexact HR
  iintro ⟨Hc, HO⟩
  iapply Hk
  isplitl [HO]; · iexists _; iexact HO
  iexact Hc

/-- The wait on the send cell of round `k`: the outgoing slot is back. -/
theorem wp_wait_send (K : Dev nD × Kd → ℕ) (c : Dev nD) (k : Fin 3) (O : CellTallies nD τ sig Unit) (hO : Over 0 O)
    {src dst : Memref sig .tc .vmem S5x128x128 .bf16} (hd : dst = sM k) {q : DmaSem sig} (hq : q = sendS k)
    {hsrc : src.view.WordExact} {hdst : dst.view.WordExact}
    {α : Type} {Q : α → sProp 𝕄} {kk : PUnit → Prog (TpuEff nD τ sig (Elt F) Λ₀ .tc) α} :
    iprop(records m K ∗ levAts L lv ∗ cred (tallyAt (sendCell k c) () N) ∗ owe c O ∗ atPos ER (sendCell k c) 0 ∅ 0)
      ⊢ iprop(((owe c O ∗ semVal (sendCell k c) 0 ∗ sAny k c) -∗ WP c (kk ⟨⟩) Q)
        -∗ WP c (.op (.waitDma2 q src dst hsrc hdst) kk) Q) := by
  subst hd; subst hq
  unfold owe
  iintro ⟨#HR, #Hlev, Hc, ⟨%W, HO⟩, Hat⟩ Hk
  iapply (Rounds.wp_wait_rest_token 𝒱₀ ER (sch m) (c : Thread nD τ) none (κ := K (c, .send k))
      (wpE_waitDma2_eq 𝒱₀ (c : Thread nD τ) none Set.univ) (Set.mem_univ _) () (O := O) (W := W) (R := 0) (m := 0) (T := ∅)
      (by rw [Nat.zero_add]; exact (expect_send m c k).symm)) $$ [Hc HO Hat]
  · isplitr; · iapply (inv_send m K (c) k); iexact HR
    isplitl [Hc]; · iexact Hc
    isplitl [HO]; · iexact HO
    isplitr; · iapply (mayWait_of 0 c (.dma (sendS k)) O (le_of_eq (lv_send k c ())) hO); iexact Hlev
    iexact Hat
  iintro ⟨HO, Hat, -, Hpay⟩
  ihave Hp := (Entails.of_eq (rest_send m c k)) $$ Hpay
  imod (Rounds.cell_close ER (sch m) (Set.mem_univ (K (c, .send k))) (fun h => h) (R := 0 + 1) (duties_later m (sendCell k c))) $$ [Hat] with Hz
  · isplitr; · iapply (inv_send m K (c) k); iexact HR
    iexact Hat
  iapply Hk
  isplitl [HO]; · iexists _; iexact HO
  isplitl [Hz] <;> iassumption

/-- The wait on the receive cell of round `k`: the landing slot is back, holding what the round's partner sent. -/
theorem wp_wait_recv (K : Dev nD × Kd → ℕ) (c : Dev nD) (k : Fin 3) (O : CellTallies nD τ sig Unit) (hO : Over (2 + k.val) O)
    {src dst : Memref sig .tc .vmem S5x128x128 .bf16} (hd : dst = rM k) {q : DmaSem sig} (hq : q = recvS k)
    {hsrc : src.view.WordExact} {hdst : dst.view.WordExact}
    {α : Type} {Q : α → sProp 𝕄} {kk : PUnit → Prog (TpuEff nD τ sig (Elt F) Λ₀ .tc) α} :
    iprop(records m K ∗ levAts L lv ∗ cred (tallyAt (recvCell k c) () N) ∗ owe c O ∗ atPos ER (recvCell k c) 0 ∅ 0)
      ⊢ iprop(((owe c O ∗ semVal (recvCell k c) 0 ∗ rOwn k c (got m k c)) -∗ WP c (kk ⟨⟩) Q)
        -∗ WP c (.op (.waitDma2 q src dst hsrc hdst) kk) Q) := by
  subst hd; subst hq
  unfold owe
  iintro ⟨#HR, #Hlev, Hc, ⟨%W, HO⟩, Hat⟩ Hk
  iapply (Rounds.wp_wait_rest_token 𝒱₀ ER (sch m) (c : Thread nD τ) none (κ := K (c, .recv k))
      (wpE_waitDma2_eq 𝒱₀ (c : Thread nD τ) none Set.univ) (Set.mem_univ _) () (O := O) (W := W) (R := 0) (m := 0) (T := ∅)
      (by rw [Nat.zero_add]; exact (expect_recv m c k).symm)) $$ [Hc HO Hat]
  · isplitr; · iapply (inv_recv m K (c) k); iexact HR
    isplitl [Hc]; · iexact Hc
    isplitl [HO]; · iexact HO
    isplitr; · iapply (mayWait_of (2 + k.val) c (.dma (recvS k)) O (le_of_eq (lv_recv k c ())) hO); iexact Hlev
    iexact Hat
  iintro ⟨HO, Hat, -, Hpay⟩
  ihave Hp := (Entails.of_eq (rest_recv m c k)) $$ Hpay
  imod (Rounds.cell_close ER (sch m) (Set.mem_univ (K (c, .recv k))) (fun h => h) (R := 0 + 1) (duties_later m (recvCell k c))) $$ [Hat] with Hz
  · isplitr; · iapply (inv_recv m K (c) k); iexact HR
    iexact Hat
  iapply Hk
  isplitl [HO]; · iexists _; iexact HO
  isplitl [Hz] <;> iassumption

end Cert.KernelIdeal.Attn

end
-- ==== Proof.Loads.lean ====
/-
# The kernel's stretches that only load

The printed kernel is a chain of stretches. Here are those that only load: from the staged arguments, or from a landing slot
whose block is known. Each continues at the named values.
-/
module

public import proofs.«01_k».proof.Proof.Steps

@[expose] public section

noncomputable section

namespace Cert.KernelIdeal.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- A program that returns continues at its value. -/
theorem WP_ret (c : Dev nD) {α : Type} {a : α} {Q : α → sProp 𝕄} : Q a ⊢ WP c (.ret a) Q := by
  unfold WP; rw [wp_ret]; iintro H; imodintro; iexact H
/-- A program and its continuation. -/
theorem WP_bind (c : Dev nD) {α β : Type} (p : Prog (TpuEff nD τ sig (Elt F) Λ₀ .tc) α) (kk : α → Prog (TpuEff nD τ sig (Elt F) Λ₀ .tc) β) (Q : β → sProp 𝕄) :
    WP c (p >>= kk) Q = WP c p fun a => WP c (kk a) Q := wp_bind _ _ _ _ _ _

/-- Device `c`'s staged argument blocks. -/
def stgs (c : Dev nD) : sProp 𝕄 :=
  iprop((((c : Thread nD τ).loc cc0_stg0_0) ↦{fullShare} (args m c).x) ∗ (((c : Thread nD τ).loc cc0_stg1_0) ↦{fullShare} (args m c).wq)
    ∗ (((c : Thread nD τ).loc cc0_stg2_0) ↦{fullShare} (args m c).k) ∗ (((c : Thread nD τ).loc cc0_stg3_0) ↦{fullShare} (args m c).v)
    ∗ (((c : Thread nD τ).loc cc0_stg4_0) ↦{fullShare} (args m c).wo))

/-- Stretch 2 of the kernel: loads of the arguments. -/
theorem wp_part2 (K : Dev nD × Kd → ℕ) (c : Dev nD) (Q : _ → sProp 𝕄) :
    iprop(stgs m c ∗ ((stgs m c) -∗ Q ⟨(v75 (args m c)), (v77 (args m c))⟩))
      ⊢ WP c (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3
          (v2 (args m c)) (v15 (args m c)) (v29 (args m c)) (v31 (args m c)) (v32 (args m c))) Q := by
  rw [k0_part2_eq_skeleton]; unfold k0_part2_skel
  simp only [semSignalWord, semWaitWord, Prog.lift, Prog.bind_op, Prog.bind_ret, Prog.pure_eq_ret, wp_deviceId]
  unfold v75 v77 ldX0
  unfold stgs
  iintro ⟨⟨Hx, Hwq, Hk, Hv, Hwo⟩, HQ⟩
  iapply (wp_load 𝒱₀ (c : Thread nD τ) none Set.univ (m := Memref.whole cc0_stg0_0) (Finset.subset_univ _)) $$ Hx; iintro Hx
  iapply (WP_ret c); iapply HQ
  isplitl [Hx]; · iexact Hx
  isplitl [Hwq]; · iexact Hwq
  isplitl [Hk]; · iexact Hk
  isplitl [Hv] <;> iassumption

/-- Stretch 3 of the kernel: loads of the arguments. -/
theorem wp_part3 (K : Dev nD × Kd → ℕ) (c : Dev nD) (Q : _ → sProp 𝕄) :
    iprop(stgs m c ∗ ((stgs m c) -∗ Q ⟨(v80 (args m c)), (v93 (args m c)), (v98 (args m c)), (v100 (args m c)), (v106 (args m c)), (v109 (args m c)), (cst_53 (args m c))⟩))
      ⊢ WP c (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3
          (v75 (args m c)) (v77 (args m c))) Q := by
  rw [k0_part3_eq_skeleton]; unfold k0_part3_skel
  simp only [semSignalWord, semWaitWord, Prog.lift, Prog.bind_op, Prog.bind_ret, Prog.pure_eq_ret, wp_deviceId]
  unfold v80 v93 v98 v100 v106 v109 cst_53 ldK00 ldK01 ldV00 ldV01 ldWq
  unfold stgs
  iintro ⟨⟨Hx, Hwq, Hk, Hv, Hwo⟩, HQ⟩
  iapply (wp_load 𝒱₀ (c : Thread nD τ) none Set.univ (m := Memref.whole cc0_stg1_0) (Finset.subset_univ _)) $$ Hwq; iintro Hwq
  iapply (wp_load 𝒱₀ (c : Thread nD τ) none Set.univ (m := Memref.whole cc0_stg2_0) (Finset.subset_univ _)) $$ Hk; iintro Hk
  iapply (wp_load 𝒱₀ (c : Thread nD τ) none Set.univ (m := Memref.whole cc0_stg3_0) (Finset.subset_univ _)) $$ Hv; iintro Hv
  iapply (wp_load 𝒱₀ (c : Thread nD τ) none Set.univ (m := Memref.whole cc0_stg2_0) (Finset.subset_univ _)) $$ Hk; iintro Hk
  iapply (wp_load 𝒱₀ (c : Thread nD τ) none Set.univ (m := Memref.whole cc0_stg3_0) (Finset.subset_univ _)) $$ Hv; iintro Hv
  iapply (WP_ret c); iapply HQ
  isplitl [Hx]; · iexact Hx
  isplitl [Hwq]; · iexact Hwq
  isplitl [Hk]; · iexact Hk
  isplitl [Hv] <;> iassumption

/-- Stretch 4 of the kernel: loads of the arguments. -/
theorem wp_part4 (K : Dev nD × Kd → ℕ) (c : Dev nD) (Q : _ → sProp 𝕄) :
    iprop(stgs m c ∗ ((stgs m c) -∗ Q ⟨(v113 (args m c)), (v118 (args m c)), (v120 (args m c)), (v133 (args m c)), (v138 (args m c)), (v140 (args m c)), (v142 (args m c)), (v144 (args m c))⟩))
      ⊢ WP c (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3
          (v75 (args m c)) (v80 (args m c)) (v106 (args m c)) (v109 (args m c)) (cst_53 (args m c))) Q := by
  rw [k0_part4_eq_skeleton]; unfold k0_part4_skel
  simp only [semSignalWord, semWaitWord, Prog.lift, Prog.bind_op, Prog.bind_ret, Prog.pure_eq_ret, wp_deviceId]
  unfold v113 v118 v120 v133 v138 v140 v142 v144 ldK02 ldK03 ldV02
  unfold stgs
  iintro ⟨⟨Hx, Hwq, Hk, Hv, Hwo⟩, HQ⟩
  iapply (wp_load 𝒱₀ (c : Thread nD τ) none Set.univ (m := Memref.whole cc0_stg2_0) (Finset.subset_univ _)) $$ Hk; iintro Hk
  iapply (wp_load 𝒱₀ (c : Thread nD τ) none Set.univ (m := Memref.whole cc0_stg3_0) (Finset.subset_univ _)) $$ Hv; iintro Hv
  iapply (wp_load 𝒱₀ (c : Thread nD τ) none Set.univ (m := Memref.whole cc0_stg2_0) (Finset.subset_univ _)) $$ Hk; iintro Hk
  iapply (WP_ret c); iapply HQ
  isplitl [Hx]; · iexact Hx
  isplitl [Hwq]; · iexact Hwq
  isplitl [Hk]; · iexact Hk
  isplitl [Hv] <;> iassumption

/-- Stretch 5 of the kernel: loads of the arguments. -/
theorem wp_part5 (K : Dev nD × Kd → ℕ) (c : Dev nD) (Q : _ → sProp 𝕄) :
    iprop(stgs m c ∗ ((stgs m c) -∗ Q ⟨(v153 (args m c)), (v158 (args m c)), (v160 (args m c)), (v165 (args m c)), (v171 (args m c)), (v178 (args m c)), (v180 (args m c))⟩))
      ⊢ WP c (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3
          (v75 (args m c)) (v142 (args m c)) (v144 (args m c))) Q := by
  rw [k0_part5_eq_skeleton]; unfold k0_part5_skel
  simp only [semSignalWord, semWaitWord, Prog.lift, Prog.bind_op, Prog.bind_ret, Prog.pure_eq_ret, wp_deviceId]
  unfold v153 v158 v160 v165 v171 v178 v180 ldK10 ldV03 ldV10 ldWq ldX1
  unfold stgs
  iintro ⟨⟨Hx, Hwq, Hk, Hv, Hwo⟩, HQ⟩
  iapply (wp_load 𝒱₀ (c : Thread nD τ) none Set.univ (m := Memref.whole cc0_stg3_0) (Finset.subset_univ _)) $$ Hv; iintro Hv
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_stg1_0) (Finset.subset_univ _)) $$ Hwq; iintro Hwq
  iapply (wp_load 𝒱₀ (c : Thread nD τ) none Set.univ (m := Memref.whole cc0_stg2_0) (Finset.subset_univ _)) $$ Hk; iintro Hk
  iapply (wp_load 𝒱₀ (c : Thread nD τ) none Set.univ (m := Memref.whole cc0_stg3_0) (Finset.subset_univ _)) $$ Hv; iintro Hv
  iapply (WP_ret c); iapply HQ
  isplitl [Hx]; · iexact Hx
  isplitl [Hwq]; · iexact Hwq
  isplitl [Hk]; · iexact Hk
  isplitl [Hv] <;> iassumption

/-- Stretch 6 of the kernel: loads of the arguments. -/
theorem wp_part6 (K : Dev nD × Kd → ℕ) (c : Dev nD) (Q : _ → sProp 𝕄) :
    iprop(stgs m c ∗ ((stgs m c) -∗ Q ⟨(v183 (args m c)), (v185 (args m c)), (v198 (args m c)), (v203 (args m c)), (v205 (args m c)), (v211 (args m c)), (v214 (args m c))⟩))
      ⊢ WP c (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3
          (v75 (args m c)) (v165 (args m c)) (v171 (args m c)) (v180 (args m c))) Q := by
  rw [k0_part6_eq_skeleton]; unfold k0_part6_skel
  simp only [semSignalWord, semWaitWord, Prog.lift, Prog.bind_op, Prog.bind_ret, Prog.pure_eq_ret, wp_deviceId]
  unfold v183 v185 v198 v203 v205 v211 v214 ldK11 ldK12 ldV11 ldV12
  unfold stgs
  iintro ⟨⟨Hx, Hwq, Hk, Hv, Hwo⟩, HQ⟩
  iapply (wp_load 𝒱₀ (c : Thread nD τ) none Set.univ (m := Memref.whole cc0_stg2_0) (Finset.subset_univ _)) $$ Hk; iintro Hk
  iapply (wp_load 𝒱₀ (c : Thread nD τ) none Set.univ (m := Memref.whole cc0_stg3_0) (Finset.subset_univ _)) $$ Hv; iintro Hv
  iapply (wp_load 𝒱₀ (c : Thread nD τ) none Set.univ (m := Memref.whole cc0_stg2_0) (Finset.subset_univ _)) $$ Hk; iintro Hk
  iapply (wp_load 𝒱₀ (c : Thread nD τ) none Set.univ (m := Memref.whole cc0_stg3_0) (Finset.subset_univ _)) $$ Hv; iintro Hv
  iapply (WP_ret c); iapply HQ
  isplitl [Hx]; · iexact Hx
  isplitl [Hwq]; · iexact Hwq
  isplitl [Hk]; · iexact Hk
  isplitl [Hv] <;> iassumption

/-- Stretch 7 of the kernel: loads of the arguments. -/
theorem wp_part7 (K : Dev nD × Kd → ℕ) (c : Dev nD) (Q : _ → sProp 𝕄) :
    iprop(stgs m c ∗ ((stgs m c) -∗ Q ⟨(v218 (args m c)), (v223 (args m c)), (v225 (args m c)), (v238 (args m c)), (v243 (args m c)), (v245 (args m c)), (v251 (args m c)), (v252 (args m c)), (v253 (args m c)), (v254 (args m c)), (v255 (args m c))⟩))
      ⊢ WP c (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3
          (v75 (args m c)) (v93 (args m c)) (v98 (args m c)) (v100 (args m c)) (v113 (args m c)) (v118 (args m c)) (v120 (args m c)) (v133 (args m c)) (v138 (args m c)) (v140 (args m c)) (v153 (args m c)) (v158 (args m c)) (v160 (args m c)) (v165 (args m c)) (v178 (args m c)) (v183 (args m c)) (v185 (args m c)) (v198 (args m c)) (v203 (args m c)) (v205 (args m c)) (v211 (args m c)) (v214 (args m c))) Q := by
  rw [k0_part7_eq_skeleton]; unfold k0_part7_skel
  simp only [semSignalWord, semWaitWord, Prog.lift, Prog.bind_op, Prog.bind_ret, Prog.pure_eq_ret, wp_deviceId]
  unfold v218 v223 v225 v238 v243 v245 v251 v252 v253 v254 v255 ldK13 ldV13
  unfold stgs
  iintro ⟨⟨Hx, Hwq, Hk, Hv, Hwo⟩, HQ⟩
  iapply (wp_load 𝒱₀ (c : Thread nD τ) none Set.univ (m := Memref.whole cc0_stg2_0) (Finset.subset_univ _)) $$ Hk; iintro Hk
  iapply (wp_load 𝒱₀ (c : Thread nD τ) none Set.univ (m := Memref.whole cc0_stg3_0) (Finset.subset_univ _)) $$ Hv; iintro Hv
  iapply (WP_ret c); iapply HQ
  isplitl [Hx]; · iexact Hx
  isplitl [Hwq]; · iexact Hwq
  isplitl [Hk]; · iexact Hk
  isplitl [Hv] <;> iassumption

/-- Stretch 10 of the kernel: loads of the landed block. -/
theorem wp_part10 (K : Dev nD × Kd → ℕ) (c : Dev nD) (Q : _ → sProp 𝕄) :
    iprop(rOwn 0 c (got0 m c) ∗ ((rOwn 0 c (got0 m c)) -∗ Q ⟨(v321 (args m c) (got0 m c)), (v326 (args m c) (got0 m c)), (v333 (args m c) (got0 m c)), (v340 (args m c) (got0 m c)), (v345 (args m c) (got0 m c)), (v352 (args m c) (got0 m c)), (v359 (args m c) (got0 m c)), (v364 (args m c) (got0 m c)), (v368 (args m c) (got0 m c))⟩))
      ⊢ WP c (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3
          (v120 (args m c)) (v133 (args m c)) (v138 (args m c)) (v140 (args m c)) (v153 (args m c)) (v158 (args m c)) (v160 (args m c)) (v288 (args m c) (got0 m c)) (v311 (args m c) (got0 m c)) (v316 (args m c) (got0 m c)) (v318 (args m c) (got0 m c)) (v319 (args m c) (got0 m c)) (v320 (args m c) (got0 m c))) Q := by
  rw [k0_part10_eq_skeleton]; unfold k0_part10_skel
  simp only [semSignalWord, semWaitWord, Prog.lift, Prog.bind_op, Prog.bind_ret, Prog.pure_eq_ret, wp_deviceId]
  unfold v321 v326 v333 v340 v345 v352 v359 v364 v368
  iintro ⟨Hr, HQ⟩
  iapply (wp_load_tile c 0 1 (got0 m c) rfl) $$ Hr; iintro Hr
  iapply (wp_load_tile c 0 1 (got0 m c) rfl) $$ Hr; iintro Hr
  iapply (wp_load_tile c 0 2 (got0 m c) rfl) $$ Hr; iintro Hr
  iapply (WP_ret c); iapply HQ; iexact Hr

/-- Stretch 11 of the kernel: loads of the landed block. -/
theorem wp_part11 (K : Dev nD × Kd → ℕ) (c : Dev nD) (Q : _ → sProp 𝕄) :
    iprop(rOwn 0 c (got0 m c) ∗ ((rOwn 0 c (got0 m c)) -∗ Q ⟨(v371 (args m c) (got0 m c)), (v378 (args m c) (got0 m c)), (v383 (args m c) (got0 m c)), (v390 (args m c) (got0 m c)), (v397 (args m c) (got0 m c)), (v402 (args m c) (got0 m c)), (v409 (args m c) (got0 m c)), (v416 (args m c) (got0 m c)), (v418 (args m c) (got0 m c)), (v420 (args m c) (got0 m c))⟩))
      ⊢ WP c (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3
          (v178 (args m c)) (v183 (args m c)) (v185 (args m c)) (v198 (args m c)) (v203 (args m c)) (v205 (args m c)) (v218 (args m c)) (v223 (args m c)) (v225 (args m c)) (v288 (args m c) (got0 m c)) (v368 (args m c) (got0 m c))) Q := by
  rw [k0_part11_eq_skeleton]; unfold k0_part11_skel
  simp only [semSignalWord, semWaitWord, Prog.lift, Prog.bind_op, Prog.bind_ret, Prog.pure_eq_ret, wp_deviceId]
  unfold v371 v378 v383 v390 v397 v402 v409 v416 v418 v420
  iintro ⟨Hr, HQ⟩
  iapply (wp_load_tile c 0 2 (got0 m c) rfl) $$ Hr; iintro Hr
  iapply (wp_load_tile c 0 3 (got0 m c) rfl) $$ Hr; iintro Hr
  iapply (WP_ret c); iapply HQ; iexact Hr

/-- Stretch 14 of the kernel: loads of the landed block. -/
theorem wp_part14 (K : Dev nD × Kd → ℕ) (c : Dev nD) (Q : _ → sProp 𝕄) :
    iprop(rOwn 1 c (got1 m c) ∗ ((rOwn 1 c (got1 m c)) -∗ Q ⟨(v490 (args m c) (got0 m c) (got1 m c)), (v497 (args m c) (got0 m c) (got1 m c)), (v502 (args m c) (got0 m c) (got1 m c)), (v509 (args m c) (got0 m c) (got1 m c)), (v516 (args m c) (got0 m c) (got1 m c)), (v521 (args m c) (got0 m c) (got1 m c)), (v525 (args m c) (got0 m c) (got1 m c)), (v528 (args m c) (got0 m c) (got1 m c)), (v532 (args m c) (got0 m c) (got1 m c)), (v535 (args m c) (got0 m c) (got1 m c)), (v536 (args m c) (got0 m c) (got1 m c))⟩))
      ⊢ WP c (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3
          (v295 (args m c) (got0 m c)) (v302 (args m c) (got0 m c)) (v307 (args m c) (got0 m c)) (v314 (args m c) (got0 m c)) (v321 (args m c) (got0 m c)) (v326 (args m c) (got0 m c)) (v333 (args m c) (got0 m c)) (v340 (args m c) (got0 m c)) (v483 (args m c) (got0 m c) (got1 m c)) (tile 0 (got1 m c))) Q := by
  rw [k0_part14_eq_skeleton]; unfold k0_part14_skel
  simp only [semSignalWord, semWaitWord, Prog.lift, Prog.bind_op, Prog.bind_ret, Prog.pure_eq_ret, wp_deviceId]
  unfold v490 v497 v502 v509 v516 v521 v525 v528 v532 v535 v536
  iintro ⟨Hr, HQ⟩
  iapply (wp_load_tile c 1 0 (got1 m c) rfl) $$ Hr; iintro Hr
  iapply (wp_load_tile c 1 1 (got1 m c) rfl) $$ Hr; iintro Hr
  iapply (WP_ret c); iapply HQ; iexact Hr

/-- Stretch 15 of the kernel: loads of the landed block. -/
theorem wp_part15 (K : Dev nD × Kd → ℕ) (c : Dev nD) (Q : _ → sProp 𝕄) :
    iprop(rOwn 1 c (got1 m c) ∗ ((rOwn 1 c (got1 m c)) -∗ Q ⟨(v540 (args m c) (got0 m c) (got1 m c)), (v547 (args m c) (got0 m c) (got1 m c)), (v554 (args m c) (got0 m c) (got1 m c)), (v559 (args m c) (got0 m c) (got1 m c)), (v566 (args m c) (got0 m c) (got1 m c)), (v573 (args m c) (got0 m c) (got1 m c)), (v578 (args m c) (got0 m c) (got1 m c)), (v582 (args m c) (got0 m c) (got1 m c)), (v583 (args m c) (got0 m c) (got1 m c)), (v584 (args m c) (got0 m c) (got1 m c))⟩))
      ⊢ WP c (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3
          (v345 (args m c) (got0 m c)) (v352 (args m c) (got0 m c)) (v359 (args m c) (got0 m c)) (v364 (args m c) (got0 m c)) (v371 (args m c) (got0 m c)) (v378 (args m c) (got0 m c)) (v383 (args m c) (got0 m c)) (v483 (args m c) (got0 m c) (got1 m c)) (v525 (args m c) (got0 m c) (got1 m c)) (v532 (args m c) (got0 m c) (got1 m c)) (v536 (args m c) (got0 m c) (got1 m c))) Q := by
  rw [k0_part15_eq_skeleton]; unfold k0_part15_skel
  simp only [semSignalWord, semWaitWord, Prog.lift, Prog.bind_op, Prog.bind_ret, Prog.pure_eq_ret, wp_deviceId]
  unfold v540 v547 v554 v559 v566 v573 v578 v582 v583 v584
  iintro ⟨Hr, HQ⟩
  iapply (wp_load_tile c 1 1 (got1 m c) rfl) $$ Hr; iintro Hr
  iapply (wp_load_tile c 1 2 (got1 m c) rfl) $$ Hr; iintro Hr
  iapply (wp_load_tile c 1 2 (got1 m c) rfl) $$ Hr; iintro Hr
  iapply (WP_ret c); iapply HQ; iexact Hr

/-- Stretch 16 of the kernel: loads of the landed block. -/
theorem wp_part16 (K : Dev nD × Kd → ℕ) (c : Dev nD) (Q : _ → sProp 𝕄) :
    iprop(rOwn 1 c (got1 m c) ∗ ((rOwn 1 c (got1 m c)) -∗ Q ⟨(v585 (args m c) (got0 m c) (got1 m c)), (v592 (args m c) (got0 m c) (got1 m c)), (v597 (args m c) (got0 m c) (got1 m c)), (v604 (args m c) (got0 m c) (got1 m c)), (v611 (args m c) (got0 m c) (got1 m c)), (v616 (args m c) (got0 m c) (got1 m c)), (v623 (args m c) (got0 m c) (got1 m c)), (v630 (args m c) (got0 m c) (got1 m c)), (v635 (args m c) (got0 m c) (got1 m c)), (v636 (args m c) (got0 m c) (got1 m c))⟩))
      ⊢ WP c (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3
          (v390 (args m c) (got0 m c)) (v397 (args m c) (got0 m c)) (v402 (args m c) (got0 m c)) (v409 (args m c) (got0 m c)) (v416 (args m c) (got0 m c)) (v421 (args m c) (got0 m c)) (v428 (args m c) (got0 m c)) (v435 (args m c) (got0 m c)) (v440 (args m c) (got0 m c)) (v483 (args m c) (got0 m c) (got1 m c)) (v502 (args m c) (got0 m c) (got1 m c)) (v521 (args m c) (got0 m c) (got1 m c)) (v582 (args m c) (got0 m c) (got1 m c)) (v583 (args m c) (got0 m c) (got1 m c)) (v584 (args m c) (got0 m c) (got1 m c))) Q := by
  rw [k0_part16_eq_skeleton]; unfold k0_part16_skel
  simp only [semSignalWord, semWaitWord, Prog.lift, Prog.bind_op, Prog.bind_ret, Prog.pure_eq_ret, wp_deviceId]
  unfold v585 v592 v597 v604 v611 v616 v623 v630 v635 v636
  iintro ⟨Hr, HQ⟩
  iapply (wp_load_tile c 1 3 (got1 m c) rfl) $$ Hr; iintro Hr
  iapply (wp_load_tile c 1 3 (got1 m c) rfl) $$ Hr; iintro Hr
  iapply (WP_ret c); iapply HQ; iexact Hr

/-- Stretch 19 of the kernel: loads of the landed block. -/
theorem wp_part19 (K : Dev nD × Kd → ℕ) (c : Dev nD) (Q : _ → sProp 𝕄) :
    iprop(rOwn 2 c (got2 m c) ∗ ((rOwn 2 c (got2 m c)) -∗ Q ⟨(v711 (args m c) (got0 m c) (got1 m c) (got2 m c)), (v716 (args m c) (got0 m c) (got1 m c) (got2 m c)), (v730 (args m c) (got0 m c) (got1 m c) (got2 m c)), (v735 (args m c) (got0 m c) (got1 m c) (got2 m c)), (v739 (args m c) (got0 m c) (got1 m c) (got2 m c)), (v749 (args m c) (got0 m c) (got1 m c) (got2 m c)), (v751 (args m c) (got0 m c) (got1 m c) (got2 m c)), (v752 (args m c) (got0 m c) (got1 m c) (got2 m c))⟩))
      ⊢ WP c (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3
          (v509 (args m c) (got0 m c) (got1 m c)) (v516 (args m c) (got0 m c) (got1 m c)) (v521 (args m c) (got0 m c) (got1 m c)) (v528 (args m c) (got0 m c) (got1 m c)) (v535 (args m c) (got0 m c) (got1 m c)) (v540 (args m c) (got0 m c) (got1 m c)) (v547 (args m c) (got0 m c) (got1 m c)) (v554 (args m c) (got0 m c) (got1 m c)) (v559 (args m c) (got0 m c) (got1 m c)) (v678 (args m c) (got0 m c) (got1 m c) (got2 m c)) (v700 (args m c) (got0 m c) (got1 m c) (got2 m c))) Q := by
  rw [k0_part19_eq_skeleton]; unfold k0_part19_skel
  simp only [semSignalWord, semWaitWord, Prog.lift, Prog.bind_op, Prog.bind_ret, Prog.pure_eq_ret, wp_deviceId]
  unfold v711 v716 v730 v735 v739 v749 v751 v752
  iintro ⟨Hr, HQ⟩
  iapply (wp_load_tile c 2 1 (got2 m c) rfl) $$ Hr; iintro Hr
  iapply (wp_load_tile c 2 1 (got2 m c) rfl) $$ Hr; iintro Hr
  iapply (WP_ret c); iapply HQ; iexact Hr

/-- Stretch 20 of the kernel: loads of the landed block. -/
theorem wp_part20 (K : Dev nD × Kd → ℕ) (c : Dev nD) (Q : _ → sProp 𝕄) :
    iprop(rOwn 2 c (got2 m c) ∗ ((rOwn 2 c (got2 m c)) -∗ Q ⟨(v754 (args m c) (got0 m c) (got1 m c) (got2 m c)), (v768 (args m c) (got0 m c) (got1 m c) (got2 m c)), (v773 (args m c) (got0 m c) (got1 m c) (got2 m c)), (v787 (args m c) (got0 m c) (got1 m c) (got2 m c)), (v792 (args m c) (got0 m c) (got1 m c) (got2 m c)), (v796 (args m c) (got0 m c) (got1 m c) (got2 m c)), (v797 (args m c) (got0 m c) (got1 m c) (got2 m c)), (v798 (args m c) (got0 m c) (got1 m c) (got2 m c)), (v799 (args m c) (got0 m c) (got1 m c) (got2 m c)), (v800 (args m c) (got0 m c) (got1 m c) (got2 m c))⟩))
      ⊢ WP c (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3
          (v566 (args m c) (got0 m c) (got1 m c)) (v573 (args m c) (got0 m c) (got1 m c)) (v578 (args m c) (got0 m c) (got1 m c)) (v585 (args m c) (got0 m c) (got1 m c)) (v592 (args m c) (got0 m c) (got1 m c)) (v597 (args m c) (got0 m c) (got1 m c)) (v604 (args m c) (got0 m c) (got1 m c)) (v678 (args m c) (got0 m c) (got1 m c) (got2 m c)) (v739 (args m c) (got0 m c) (got1 m c) (got2 m c)) (v751 (args m c) (got0 m c) (got1 m c) (got2 m c)) (v752 (args m c) (got0 m c) (got1 m c) (got2 m c))) Q := by
  rw [k0_part20_eq_skeleton]; unfold k0_part20_skel
  simp only [semSignalWord, semWaitWord, Prog.lift, Prog.bind_op, Prog.bind_ret, Prog.pure_eq_ret, wp_deviceId]
  unfold v754 v768 v773 v787 v792 v796 v797 v798 v799 v800
  iintro ⟨Hr, HQ⟩
  iapply (wp_load_tile c 2 2 (got2 m c) rfl) $$ Hr; iintro Hr
  iapply (wp_load_tile c 2 2 (got2 m c) rfl) $$ Hr; iintro Hr
  iapply (wp_load_tile c 2 3 (got2 m c) rfl) $$ Hr; iintro Hr
  iapply (WP_ret c); iapply HQ; iexact Hr

end Cert.KernelIdeal.Attn

end
-- ==== Proof.Remote.lean ====
/-
# The kernel's stretches that exchange

The remaining stretches of the printed kernel: the entry handshake, the three rounds, and the stores of the result.
-/
module

public import proofs.«01_k».proof.Proof.Loads

@[expose] public section

noncomputable section

namespace Cert.KernelIdeal.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem inb_out (b : Fin 2) : ∀ a, (![b.val, 0, 0] : Fin 3 → ℕ) a + S1x128x512.size a ≤ S2x128x512.size a := by revert b; decide
/-- A batch row of the result. -/
abbrev outRect (b : Fin 2) : Rect S2x128x512 := Rect.unit (s := S2x128x512) ![b.val, 0, 0] S1x128x512.size (inb_out b)

/-- Stretch 1 of the kernel: the three entry signals and the barrier wait. -/
theorem wp_part1 (K : Dev nD × Kd → ℕ) (c : Dev nD) (Q : _ → sProp 𝕄) :
    iprop(records m K ∗ levAts L lv ∗ owe c (O₀ c) ∗ dutyTok ER (barCell (pw 0 c)) 0 0 ∗ dutyTok ER (barCell (pw 1 c)) 0 1 ∗ dutyTok ER (barCell (pw 2 c)) 0 2 ∗ rAny 0 c ∗ rAny 1 c ∗ rAny 2 c ∗ cred (tallyAt (barCell c) () 3) ∗ atPos ER (barCell c) 0 ∅ 0 ∗ ((owe c (O₃ c) ∗ semVal (barCell c) 0 ∗ rAny 0 (pw 0 c) ∗ rAny 1 (pw 1 c) ∗ rAny 2 (pw 2 c)) -∗ Q ⟨c, (v2 (args m c)), (v3 (args m c)), (v4 (args m c)), (v5 (args m c)), (v15 (args m c)), (v29 (args m c)), (v31 (args m c)), (v32 (args m c))⟩))
      ⊢ WP c (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3
          ) Q := by
  rw [k0_part1_eq_skeleton]; unfold k0_part1_skel
  simp only [semSignalWord, semWaitWord, Prog.lift, Prog.bind_op, Prog.bind_ret, Prog.pure_eq_ret, wp_deviceId]
  unfold v3 v4 v5 v2 v15 v29 v31 v32
  unfold args; dsimp only
  iintro ⟨#HR, #Hlev, HO, Ht0, Ht1, Ht2, Hr0, Hr1, Hr2, Hc, Hat, HQ⟩
  iapply (wp_signal_round m K c _ 0 (dev1_eq c) (O₀ c) (O₅ c) rfl) $$ [HO Ht0 Hr0]
  · isplitr; · iexact HR
    isplitl [HO]; · iexact HO
    isplitl [Ht0]; · iexact Ht0
    iexact Hr0
  iintro HO
  iapply (wp_signal_round m K c _ 1 (dev2_eq c) (O₅ c) (O₄ c) rfl) $$ [HO Ht1 Hr1]
  · isplitr; · iexact HR
    isplitl [HO]; · iexact HO
    isplitl [Ht1]; · iexact Ht1
    iexact Hr1
  iintro HO
  iapply (wp_signal_round m K c _ 2 (dev3_eq c) (O₄ c) (O₃ c) rfl) $$ [HO Ht2 Hr2]
  · isplitr; · iexact HR
    isplitl [HO]; · iexact HO
    isplitl [Ht2]; · iexact Ht2
    iexact Hr2
  iintro HO
  iapply (wp_wait_bar m K c (O₃ c) (over_O₃ c (by decide))) $$ [Hc HO Hat]
  · isplitr; · iexact HR
    isplitr; · iexact Hlev
    isplitl [Hc]; · iexact Hc
    isplitl [HO]; · iexact HO
    iexact Hat
  iintro ⟨HO, Hz, H0, H1, H2⟩
  iapply (WP_ret c); iapply HQ
  isplitl [HO]; · iexact HO
  isplitl [Hz]; · iexact Hz
  isplitl [H0]; · iexact H0
  isplitl [H1]; · iexact H1
  iexact H2

/-- Stretch 8 of the kernel: the first block is stored and sent. -/
theorem wp_part8 (K : Dev nD × Kd → ℕ) (c : Dev nD) (Q : _ → sProp 𝕄) :
    iprop(records m K ∗ levAts L lv ∗ owe c (O₃ c) ∗ sAny 0 c ∗ rAny 0 (pw 0 c) ∗ dutyTok ER (sendCell 0 c) 0 0 ∗ dutyTok ER (recvCell 0 (pw 0 c)) 0 0 ∗ atPos ER (sendCell 0 c) 0 ∅ 0 ∗ ((owe c (O₂ c) ∗ semVal (sendCell 0 c) 0 ∗ sAny 0 c) -∗ Q ⟨⟩))
      ⊢ WP c (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3
          c (v3 (args m c)) (v251 (args m c)) (v252 (args m c)) (v253 (args m c)) (v254 (args m c)) (v255 (args m c))) Q := by
  rw [k0_part8_eq_skeleton]; unfold k0_part8_skel
  simp only [semSignalWord, semWaitWord, Prog.lift, Prog.bind_op, Prog.bind_ret, Prog.pure_eq_ret, wp_deviceId]
  iintro ⟨#HR, #Hlev, HO, Hs, Hd, Ht, Ht', Hat, HQ⟩
  iapply (wp_load_slot c 0 rfl) $$ Hs; iintro %_ Hs
  iapply (wp_store_slot c 0 rfl) $$ Hs; iintro Hs
  ihave Hs := (show sOwn 0 c (flat (k0_pay63 (v251 (args m c)) (v252 (args m c)) (v253 (args m c)) (v254 (args m c)) (v255 (args m c)))) ⊢ sOwn 0 c (sent m 0 c) from .rfl) $$ Hs
  iapply (wp_send_round m K c _ 0 (dev4_eq c) (O₃ c) (O₂ c) rfl rfl rfl rfl rfl) $$ [HO Hs Hd Ht Ht']
  · isplitr; · iexact HR
    isplitl [HO]; · iexact HO
    isplitl [Hs]; · iexact Hs
    isplitl [Hd]; · iexact Hd
    isplitl [Ht]; · iexact Ht
    iexact Ht'
  iintro ⟨HO, Hc⟩
  iapply (wp_wait_send m K c 0 (O₂ c) (over_O₂ c (by decide)) rfl rfl) $$ [Hc HO Hat]
  · isplitr; · iexact HR
    isplitr; · iexact Hlev
    isplitl [Hc]; · iexact Hc
    isplitl [HO]; · iexact HO
    iexact Hat
  iintro ⟨HO, Hz, Hs⟩
  iapply (WP_ret c); iapply HQ
  isplitl [HO]; · iexact HO
  isplitl [Hz]; · iexact Hz
  iexact Hs

/-- Stretch 9 of the kernel: the first block arrives. -/
theorem wp_part9 (K : Dev nD × Kd → ℕ) (c : Dev nD) (Q : _ → sProp 𝕄) :
    iprop(records m K ∗ levAts L lv ∗ owe c (O₂ c) ∗ cred (tallyAt (recvCell 0 c) () N) ∗ atPos ER (recvCell 0 c) 0 ∅ 0 ∗ ((owe c (O₂ c) ∗ semVal (recvCell 0 c) 0 ∗ rOwn 0 c (got0 m c)) -∗ Q ⟨(v288 (args m c) (got0 m c)), (v295 (args m c) (got0 m c)), (v302 (args m c) (got0 m c)), (v307 (args m c) (got0 m c)), (v311 (args m c) (got0 m c)), (v314 (args m c) (got0 m c)), (v316 (args m c) (got0 m c)), (v318 (args m c) (got0 m c)), (v319 (args m c) (got0 m c)), (v320 (args m c) (got0 m c))⟩))
      ⊢ WP c (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3
          (v93 (args m c)) (v98 (args m c)) (v100 (args m c)) (v113 (args m c)) (v118 (args m c))) Q := by
  rw [k0_part9_eq_skeleton]; unfold k0_part9_skel
  simp only [semSignalWord, semWaitWord, Prog.lift, Prog.bind_op, Prog.bind_ret, Prog.pure_eq_ret, wp_deviceId]
  unfold v288 v295 v302 v307 v311 v314 v316 v318 v319 v320
  iintro ⟨#HR, #Hlev, HO, Hc', Hat', HQ⟩
  iapply (wp_wait_recv m K c 0 (O₂ c) (over_O₂ c (by decide)) rfl rfl) $$ [Hc' HO Hat']
  · isplitr; · iexact HR
    isplitr; · iexact Hlev
    isplitl [Hc']; · iexact Hc'
    isplitl [HO]; · iexact HO
    iexact Hat'
  iintro ⟨HO, Hz', Hr⟩
  ihave Hr := (show rOwn 0 c (got m 0 c) ⊢ rOwn 0 c (got0 m c) from .rfl) $$ Hr
  iapply (wp_load_tile c 0 4 (got0 m c) rfl) $$ Hr; iintro Hr
  iapply (wp_load_tile c 0 0 (got0 m c) rfl) $$ Hr; iintro Hr
  iapply (wp_load_tile c 0 0 (got0 m c) rfl) $$ Hr; iintro Hr
  iapply (WP_ret c); iapply HQ
  isplitl [HO]; · iexact HO
  isplitl [Hz']; · iexact Hz'
  iexact Hr

/-- Stretch 12 of the kernel: the second block is stored. -/
theorem wp_part12 (K : Dev nD × Kd → ℕ) (c : Dev nD) (Q : _ → sProp 𝕄) :
    iprop(rOwn 0 c (got0 m c) ∗ sAny 1 c ∗ ((rOwn 0 c (got0 m c) ∗ sOwn 1 c (sent m 1 c)) -∗ Q ⟨(v421 (args m c) (got0 m c)), (v428 (args m c) (got0 m c)), (v435 (args m c) (got0 m c)), (v440 (args m c) (got0 m c))⟩))
      ⊢ WP c (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3
          (v4 (args m c)) (v238 (args m c)) (v243 (args m c)) (v245 (args m c)) (v288 (args m c) (got0 m c)) (v295 (args m c) (got0 m c)) (v302 (args m c) (got0 m c)) (v307 (args m c) (got0 m c)) (v314 (args m c) (got0 m c)) (v321 (args m c) (got0 m c)) (v326 (args m c) (got0 m c)) (v333 (args m c) (got0 m c)) (v340 (args m c) (got0 m c)) (v345 (args m c) (got0 m c)) (v352 (args m c) (got0 m c)) (v359 (args m c) (got0 m c)) (v364 (args m c) (got0 m c)) (v371 (args m c) (got0 m c)) (v378 (args m c) (got0 m c)) (v383 (args m c) (got0 m c)) (v390 (args m c) (got0 m c)) (v397 (args m c) (got0 m c)) (v402 (args m c) (got0 m c)) (v409 (args m c) (got0 m c)) (v416 (args m c) (got0 m c)) (v418 (args m c) (got0 m c)) (v420 (args m c) (got0 m c))) Q := by
  rw [k0_part12_eq_skeleton]; unfold k0_part12_skel
  simp only [semSignalWord, semWaitWord, Prog.lift, Prog.bind_op, Prog.bind_ret, Prog.pure_eq_ret, wp_deviceId]
  unfold v421 v428 v435 v440
  iintro ⟨Hr, Hs, HQ⟩
  iapply (wp_load_tile c 0 3 (got0 m c) rfl) $$ Hr; iintro Hr
  iapply (wp_load_slot c 1 rfl) $$ Hs; iintro %_ Hs
  iapply (wp_store_slot c 1 rfl) $$ Hs; iintro Hs
  ihave Hs := (show sOwn 1 c (flat (k0_pay119 (v238 (args m c)) (v243 (args m c)) (v245 (args m c)) (v288 (args m c) (got0 m c)) (v295 (args m c) (got0 m c)) (v302 (args m c) (got0 m c)) (v307 (args m c) (got0 m c)) (v314 (args m c) (got0 m c)) (v321 (args m c) (got0 m c)) (v326 (args m c) (got0 m c)) (v333 (args m c) (got0 m c)) (v340 (args m c) (got0 m c)) (v345 (args m c) (got0 m c)) (v352 (args m c) (got0 m c)) (v359 (args m c) (got0 m c)) (v364 (args m c) (got0 m c)) (v371 (args m c) (got0 m c)) (v378 (args m c) (got0 m c)) (v383 (args m c) (got0 m c)) (v390 (args m c) (got0 m c)) (v397 (args m c) (got0 m c)) (v402 (args m c) (got0 m c)) (v409 (args m c) (got0 m c)) (v416 (args m c) (got0 m c)) (v418 (args m c) (got0 m c)) (v420 (args m c) (got0 m c)) (tile 3 (got0 m c)))) ⊢ sOwn 1 c (sent m 1 c) from .rfl) $$ Hs
  iapply (WP_ret c); iapply HQ
  isplitl [Hr]; · iexact Hr
  iexact Hs

/-- Stretch 13 of the kernel: the second block is sent, its counterpart arrives. -/
theorem wp_part13 (K : Dev nD × Kd → ℕ) (c : Dev nD) (Q : _ → sProp 𝕄) :
    iprop(records m K ∗ levAts L lv ∗ owe c (O₂ c) ∗ sOwn 1 c (sent m 1 c) ∗ rAny 1 (pw 1 c) ∗ dutyTok ER (sendCell 1 c) 0 0 ∗ dutyTok ER (recvCell 1 (pw 1 c)) 0 0 ∗ atPos ER (sendCell 1 c) 0 ∅ 0 ∗ cred (tallyAt (recvCell 1 c) () N) ∗ atPos ER (recvCell 1 c) 0 ∅ 0 ∗ ((owe c (oR 2 c) ∗ semVal (sendCell 1 c) 0 ∗ sAny 1 c ∗ semVal (recvCell 1 c) 0 ∗ rOwn 1 c (got1 m c)) -∗ Q ⟨(v483 (args m c) (got0 m c) (got1 m c)), (tile 0 (got1 m c))⟩))
      ⊢ WP c (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3
          c (v4 (args m c))) Q := by
  rw [k0_part13_eq_skeleton]; unfold k0_part13_skel
  simp only [semSignalWord, semWaitWord, Prog.lift, Prog.bind_op, Prog.bind_ret, Prog.pure_eq_ret, wp_deviceId]
  unfold v483
  iintro ⟨#HR, #Hlev, HO, Hs, Hd, Ht, Ht', Hat, Hc', Hat', HQ⟩
  iapply (wp_send_round m K c _ 1 (dev5_eq c) (O₂ c) (oR 2 c) rfl rfl rfl rfl rfl) $$ [HO Hs Hd Ht Ht']
  · isplitr; · iexact HR
    isplitl [HO]; · iexact HO
    isplitl [Hs]; · iexact Hs
    isplitl [Hd]; · iexact Hd
    isplitl [Ht]; · iexact Ht
    iexact Ht'
  iintro ⟨HO, Hc⟩
  iapply (wp_wait_send m K c 1 (oR 2 c) (over_oR 2 c (by decide)) rfl rfl) $$ [Hc HO Hat]
  · isplitr; · iexact HR
    isplitr; · iexact Hlev
    isplitl [Hc]; · iexact Hc
    isplitl [HO]; · iexact HO
    iexact Hat
  iintro ⟨HO, Hz, Hs⟩
  iapply (wp_wait_recv m K c 1 (oR 2 c) (over_oR 2 c (by decide)) rfl rfl) $$ [Hc' HO Hat']
  · isplitr; · iexact HR
    isplitr; · iexact Hlev
    isplitl [Hc']; · iexact Hc'
    isplitl [HO]; · iexact HO
    iexact Hat'
  iintro ⟨HO, Hz', Hr⟩
  ihave Hr := (show rOwn 1 c (got m 1 c) ⊢ rOwn 1 c (got1 m c) from .rfl) $$ Hr
  iapply (wp_load_tile c 1 4 (got1 m c) rfl) $$ Hr; iintro Hr
  iapply (wp_load_tile c 1 0 (got1 m c) rfl) $$ Hr; iintro Hr
  iapply (WP_ret c); iapply HQ
  isplitl [HO]; · iexact HO
  isplitl [Hz]; · iexact Hz
  isplitl [Hs]; · iexact Hs
  isplitl [Hz']; · iexact Hz'
  iexact Hr

/-- Stretch 17 of the kernel: the third block is stored and sent. -/
theorem wp_part17 (K : Dev nD × Kd → ℕ) (c : Dev nD) (Q : _ → sProp 𝕄) :
    iprop(records m K ∗ owe c (oR 2 c) ∗ sAny 2 c ∗ rAny 2 (pw 2 c) ∗ dutyTok ER (sendCell 2 c) 0 0 ∗ dutyTok ER (recvCell 2 (pw 2 c)) 0 0 ∗ ((owe c 0 ∗ cred (tallyAt (sendCell 2 c) () N)) -∗ Q ⟨⟩))
      ⊢ WP c (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3
          c (v5 (args m c)) (v490 (args m c) (got0 m c) (got1 m c)) (v497 (args m c) (got0 m c) (got1 m c)) (v509 (args m c) (got0 m c) (got1 m c)) (v516 (args m c) (got0 m c) (got1 m c)) (v528 (args m c) (got0 m c) (got1 m c)) (v535 (args m c) (got0 m c) (got1 m c)) (v540 (args m c) (got0 m c) (got1 m c)) (v547 (args m c) (got0 m c) (got1 m c)) (v554 (args m c) (got0 m c) (got1 m c)) (v559 (args m c) (got0 m c) (got1 m c)) (v566 (args m c) (got0 m c) (got1 m c)) (v573 (args m c) (got0 m c) (got1 m c)) (v578 (args m c) (got0 m c) (got1 m c)) (v585 (args m c) (got0 m c) (got1 m c)) (v592 (args m c) (got0 m c) (got1 m c)) (v597 (args m c) (got0 m c) (got1 m c)) (v604 (args m c) (got0 m c) (got1 m c)) (v611 (args m c) (got0 m c) (got1 m c)) (v616 (args m c) (got0 m c) (got1 m c)) (v623 (args m c) (got0 m c) (got1 m c)) (v630 (args m c) (got0 m c) (got1 m c)) (v635 (args m c) (got0 m c) (got1 m c)) (v636 (args m c) (got0 m c) (got1 m c))) Q := by
  rw [k0_part17_eq_skeleton]; unfold k0_part17_skel
  simp only [semSignalWord, semWaitWord, Prog.lift, Prog.bind_op, Prog.bind_ret, Prog.pure_eq_ret, wp_deviceId]
  iintro ⟨#HR, HO, Hs, Hd, Ht, Ht', HQ⟩
  iapply (wp_load_slot c 2 rfl) $$ Hs; iintro %_ Hs
  iapply (wp_store_slot c 2 rfl) $$ Hs; iintro Hs
  ihave Hs := (show sOwn 2 c (flat (k0_pay174 (v490 (args m c) (got0 m c) (got1 m c)) (v497 (args m c) (got0 m c) (got1 m c)) (v509 (args m c) (got0 m c) (got1 m c)) (v516 (args m c) (got0 m c) (got1 m c)) (v528 (args m c) (got0 m c) (got1 m c)) (v535 (args m c) (got0 m c) (got1 m c)) (v540 (args m c) (got0 m c) (got1 m c)) (v547 (args m c) (got0 m c) (got1 m c)) (v554 (args m c) (got0 m c) (got1 m c)) (v559 (args m c) (got0 m c) (got1 m c)) (v566 (args m c) (got0 m c) (got1 m c)) (v573 (args m c) (got0 m c) (got1 m c)) (v578 (args m c) (got0 m c) (got1 m c)) (v585 (args m c) (got0 m c) (got1 m c)) (v592 (args m c) (got0 m c) (got1 m c)) (v597 (args m c) (got0 m c) (got1 m c)) (v604 (args m c) (got0 m c) (got1 m c)) (v611 (args m c) (got0 m c) (got1 m c)) (v616 (args m c) (got0 m c) (got1 m c)) (v623 (args m c) (got0 m c) (got1 m c)) (v630 (args m c) (got0 m c) (got1 m c)) (v635 (args m c) (got0 m c) (got1 m c)) (v636 (args m c) (got0 m c) (got1 m c)))) ⊢ sOwn 2 c (sent m 2 c) from .rfl) $$ Hs
  iapply (wp_send_round m K c _ 2 (dev6_eq c) (oR 2 c) (0) (zero_add _).symm rfl rfl rfl rfl) $$ [HO Hs Hd Ht Ht']
  · isplitr; · iexact HR
    isplitl [HO]; · iexact HO
    isplitl [Hs]; · iexact Hs
    isplitl [Hd]; · iexact Hd
    isplitl [Ht]; · iexact Ht
    iexact Ht'
  iintro ⟨HO, Hc⟩
  iapply (WP_ret c); iapply HQ
  isplitl [HO]; · iexact HO
  iexact Hc

/-- Stretch 18 of the kernel: the third block arrives. -/
theorem wp_part18 (K : Dev nD × Kd → ℕ) (c : Dev nD) (Q : _ → sProp 𝕄) :
    iprop(records m K ∗ levAts L lv ∗ owe c 0 ∗ cred (tallyAt (sendCell 2 c) () N) ∗ atPos ER (sendCell 2 c) 0 ∅ 0 ∗ cred (tallyAt (recvCell 2 c) () N) ∗ atPos ER (recvCell 2 c) 0 ∅ 0 ∗ ((owe c 0 ∗ semVal (sendCell 2 c) 0 ∗ sAny 2 c ∗ semVal (recvCell 2 c) 0 ∗ rOwn 2 c (got2 m c)) -∗ Q ⟨(v678 (args m c) (got0 m c) (got1 m c) (got2 m c)), (v692 (args m c) (got0 m c) (got1 m c) (got2 m c)), (v697 (args m c) (got0 m c) (got1 m c) (got2 m c)), (v700 (args m c) (got0 m c) (got1 m c) (got2 m c))⟩))
      ⊢ WP c (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3
          (v5 (args m c)) (v490 (args m c) (got0 m c) (got1 m c)) (v497 (args m c) (got0 m c) (got1 m c)) (v502 (args m c) (got0 m c) (got1 m c))) Q := by
  rw [k0_part18_eq_skeleton]; unfold k0_part18_skel
  simp only [semSignalWord, semWaitWord, Prog.lift, Prog.bind_op, Prog.bind_ret, Prog.pure_eq_ret, wp_deviceId]
  unfold v678 v692 v697 v700
  iintro ⟨#HR, #Hlev, HO, Hc, Hat, Hc', Hat', HQ⟩
  iapply (wp_wait_send m K c 2 (0) (over_zero _) rfl rfl) $$ [Hc HO Hat]
  · isplitr; · iexact HR
    isplitr; · iexact Hlev
    isplitl [Hc]; · iexact Hc
    isplitl [HO]; · iexact HO
    iexact Hat
  iintro ⟨HO, Hz, Hs⟩
  iapply (wp_wait_recv m K c 2 (0) (over_zero _) rfl rfl) $$ [Hc' HO Hat']
  · isplitr; · iexact HR
    isplitr; · iexact Hlev
    isplitl [Hc']; · iexact Hc'
    isplitl [HO]; · iexact HO
    iexact Hat'
  iintro ⟨HO, Hz', Hr⟩
  ihave Hr := (show rOwn 2 c (got m 2 c) ⊢ rOwn 2 c (got2 m c) from .rfl) $$ Hr
  iapply (wp_load_tile c 2 4 (got2 m c) rfl) $$ Hr; iintro Hr
  iapply (wp_load_tile c 2 0 (got2 m c) rfl) $$ Hr; iintro Hr
  iapply (wp_load_tile c 2 0 (got2 m c) rfl) $$ Hr; iintro Hr
  iapply (WP_ret c); iapply HQ
  isplitl [HO]; · iexact HO
  isplitl [Hz]; · iexact Hz
  isplitl [Hs]; · iexact Hs
  isplitl [Hz']; · iexact Hz'
  iexact Hr

/-- Stretch 21 of the kernel: the first batch row of the result. -/
theorem wp_part21 (K : Dev nD × Kd → ℕ) (c : Dev nD) (f : (cc0_stg5_0 : Ref sig .tc).ty.Contents (Elt F)) (Q : _ → sProp 𝕄) :
    iprop(stgs m c ∗ rOwn 2 c (got2 m c) ∗ (((c : Thread nD τ).loc cc0_stg5_0) ↦{fullShare} f) ∗ ((stgs m c ∗ rOwn 2 c (got2 m c) ∗ (((c : Thread nD τ).loc cc0_stg5_0) ↦{fullShare} ((Memref.whole cc0_stg5_0).access (outRect 0)).write (Elt F) f (out0 (args m c) (got0 m c) (got1 m c) (got2 m c)) Finset.univ)) -∗ Q ⟨(v806 (args m c) (got0 m c) (got1 m c) (got2 m c)), (v811 (args m c) (got0 m c) (got1 m c) (got2 m c)), (v825 (args m c) (got0 m c) (got1 m c) (got2 m c)), (v830 (args m c) (got0 m c) (got1 m c) (got2 m c)), (v832 (args m c) (got0 m c) (got1 m c) (got2 m c)), (v848 (args m c) (got0 m c) (got1 m c) (got2 m c)), (v849 (args m c) (got0 m c) (got1 m c) (got2 m c))⟩))
      ⊢ WP c (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3
          (v611 (args m c) (got0 m c) (got1 m c)) (v616 (args m c) (got0 m c) (got1 m c)) (v623 (args m c) (got0 m c) (got1 m c)) (v630 (args m c) (got0 m c) (got1 m c)) (v635 (args m c) (got0 m c) (got1 m c)) (v678 (args m c) (got0 m c) (got1 m c) (got2 m c)) (v692 (args m c) (got0 m c) (got1 m c) (got2 m c)) (v697 (args m c) (got0 m c) (got1 m c) (got2 m c)) (v711 (args m c) (got0 m c) (got1 m c) (got2 m c)) (v716 (args m c) (got0 m c) (got1 m c) (got2 m c)) (v730 (args m c) (got0 m c) (got1 m c) (got2 m c)) (v735 (args m c) (got0 m c) (got1 m c) (got2 m c)) (v749 (args m c) (got0 m c) (got1 m c) (got2 m c)) (v754 (args m c) (got0 m c) (got1 m c) (got2 m c)) (v768 (args m c) (got0 m c) (got1 m c) (got2 m c)) (v773 (args m c) (got0 m c) (got1 m c) (got2 m c)) (v787 (args m c) (got0 m c) (got1 m c) (got2 m c)) (v796 (args m c) (got0 m c) (got1 m c) (got2 m c)) (v797 (args m c) (got0 m c) (got1 m c) (got2 m c)) (v798 (args m c) (got0 m c) (got1 m c) (got2 m c)) (v799 (args m c) (got0 m c) (got1 m c) (got2 m c)) (v800 (args m c) (got0 m c) (got1 m c) (got2 m c))) Q := by
  rw [k0_part21_eq_skeleton]; unfold k0_part21_skel
  simp only [semSignalWord, semWaitWord, Prog.lift, Prog.bind_op, Prog.bind_ret, Prog.pure_eq_ret, wp_deviceId]
  unfold v806 v811 v825 v830 v832 v848 v849 ldWo
  unfold stgs out0 ldWo
  iintro ⟨⟨Hx, Hwq, Hk, Hv, Hwo⟩, Hr, Ho, HQ⟩
  iapply (wp_load_tile c 2 3 (got2 m c) rfl) $$ Hr; iintro Hr
  iapply (wp_load 𝒱₀ (c : Thread nD τ) none Set.univ (m := Memref.whole cc0_stg4_0) (Finset.subset_univ _)) $$ Hwo; iintro Hwo
  iapply (wp_load 𝒱₀ (c : Thread nD τ) none Set.univ (m := Memref.whole cc0_stg5_0) (Finset.subset_univ _)) $$ Ho; iintro Ho
  iapply (wp_store 𝒱₀ (c : Thread nD τ) none Set.univ (m := Memref.whole cc0_stg5_0) (r := outRect 0) (Mk := Finset.univ) (Finset.subset_univ _)) $$ Ho; iintro Ho
  iapply (WP_ret c); iapply HQ
  isplitl [Hx Hwq Hk Hv Hwo]
  · isplitl [Hx]; · iexact Hx
    isplitl [Hwq]; · iexact Hwq
    isplitl [Hk]; · iexact Hk
    isplitl [Hv] <;> iassumption
  isplitl [Hr] <;> iassumption

end Cert.KernelIdeal.Attn

end
-- ==== Proof.Body.lean ====
/-
# The body of the kernel

The result of a device as one value (`outAt`), and the whole body run from what the launch deals a device to that value
(`wp_body`).
-/
module

public import proofs.«01_k».proof.Proof.Remote

@[expose] public section

noncomputable section

namespace Cert.KernelIdeal.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The result of device `c`: row by row of the batch. -/
def outAt (c : Dev nD) : (cc0_stg5_0 : Ref sig .tc).ty.Contents (Elt F) := fun i =>
  if (i 0).val = 0 then out0 (args m c) (got0 m c) (got1 m c) (got2 m c) (ix3 0 (i 1) (i 2))
  else out1 (args m c) (got0 m c) (got1 m c) (got2 m c) (ix3 0 (i 1) (i 2))

/-- Writing a batch row of the result. -/
theorem write_row (b : Fin 2) (f : (cc0_stg5_0 : Ref sig .tc).ty.Contents (Elt F)) (w : FVec F S1x128x512 .f32) (i : S2x128x512.Idx) :
    ((Memref.whole cc0_stg5_0).access (outRect b)).write (Elt F) f w Finset.univ i
      = if (i 0).val = b.val then w (ix3 0 (i 1) (i 2)) else f i := by
  split
  · rename_i h
    have he : ((Memref.whole cc0_stg5_0).access (outRect b)).emb (ix3 0 (i 1) (i 2)) = i := by
      funext a; refine Fin.ext ?_
      refine (ValueKit.rect_emb_unit_val _ _ _ _ _).trans ?_
      fin_cases a
      · show b.val + 0 = (i 0).val; omega
      · show 0 + (i 1).val = (i 1).val; omega
      · show 0 + (i 2).val = (i 2).val; omega
    conv_lhs => rw [← he]
    exact View.write_emb_of_mem (v := (Memref.whole cc0_stg5_0).access (outRect b)) (Val := Elt F) f w (Finset.mem_univ _)
  · rename_i h
    refine View.write_of_not_mem (v := (Memref.whole cc0_stg5_0).access (outRect b)) (Val := Elt F) f w _ fun hi => h ?_
    obtain ⟨x, -, hx⟩ := Finset.mem_map.mp hi
    have h0 : (((outRect b).emb x) 0).val = (i 0).val := congrArg (fun j : S2x128x512.Idx => (j 0).val) hx
    rw [ValueKit.rect_emb_unit_val] at h0
    have h1 : b.val + (x 0).val = (i 0).val := h0
    have h2 : (x 0).val < 1 := (x 0).isLt
    omega

theorem out_eq (c : Dev nD) (f : (cc0_stg5_0 : Ref sig .tc).ty.Contents (Elt F)) (w : FVec F S1x128x512 .f32)
    (hw : w = out1 (args m c) (got0 m c) (got1 m c) (got2 m c)) :
    ((((c : Thread nD τ).loc cc0_stg5_0) ↦{fullShare} ((Memref.whole cc0_stg5_0).access (outRect 1)).write (Elt F)
        (((Memref.whole cc0_stg5_0).access (outRect 0)).write (Elt F) f (out0 (args m c) (got0 m c) (got1 m c) (got2 m c)) Finset.univ)
        w Finset.univ) : sProp 𝕄)
      = (((c : Thread nD τ).loc cc0_stg5_0) ↦{fullShare} outAt m c) := by
  subst hw
  refine congrArg _ (funext fun i => ?_)
  rw [write_row, write_row]
  unfold outAt
  have h : (i 0).val < 2 := (i 0).isLt
  show (if (i 0).val = 1 then _ else if (i 0).val = 0 then _ else _) = _
  by_cases h0 : (i 0).val = 0
  · rw [if_neg (by omega), if_pos h0, if_pos h0]
  · rw [if_pos (by omega), if_neg h0]

/-- What the launch deals device `c`'s body. -/
def bodyIn (K : Dev nD × Kd → ℕ) (c : Dev nD) (f : (cc0_stg5_0 : Ref sig .tc).ty.Contents (Elt F)) : sProp 𝕄 :=
  iprop(records m K
    ∗ levAts L lv
    ∗ owe c (O₀ c)
    ∗ dutyTok ER (barCell (pw 0 c)) 0 0
    ∗ dutyTok ER (barCell (pw 1 c)) 0 1
    ∗ dutyTok ER (barCell (pw 2 c)) 0 2
    ∗ dutyTok ER (sendCell 0 c) 0 0
    ∗ dutyTok ER (sendCell 1 c) 0 0
    ∗ dutyTok ER (sendCell 2 c) 0 0
    ∗ dutyTok ER (recvCell 0 (pw 0 c)) 0 0
    ∗ dutyTok ER (recvCell 1 (pw 1 c)) 0 0
    ∗ dutyTok ER (recvCell 2 (pw 2 c)) 0 0
    ∗ cred (tallyAt (barCell c) () 3)
    ∗ cred (tallyAt (recvCell 0 c) () N)
    ∗ cred (tallyAt (recvCell 1 c) () N)
    ∗ cred (tallyAt (recvCell 2 c) () N)
    ∗ atPos ER (barCell c) 0 ∅ 0
    ∗ atPos ER (sendCell 0 c) 0 ∅ 0
    ∗ atPos ER (sendCell 1 c) 0 ∅ 0
    ∗ atPos ER (sendCell 2 c) 0 ∅ 0
    ∗ atPos ER (recvCell 0 c) 0 ∅ 0
    ∗ atPos ER (recvCell 1 c) 0 ∅ 0
    ∗ atPos ER (recvCell 2 c) 0 ∅ 0
    ∗ rAny 0 c
    ∗ rAny 1 c
    ∗ rAny 2 c
    ∗ sAny 0 c
    ∗ sAny 1 c
    ∗ sAny 2 c
    ∗ stgs m c
    ∗ (((c : Thread nD τ).loc cc0_stg5_0) ↦{fullShare} f))

/-- What the body leaves: every counter at zero, the exchange buffers at some contents, the result. -/
def bodyOut (c : Dev nD) : sProp 𝕄 :=
  iprop(owe c 0
    ∗ semVal (barCell c) 0
    ∗ semVal (sendCell 0 c) 0
    ∗ semVal (sendCell 1 c) 0
    ∗ semVal (sendCell 2 c) 0
    ∗ semVal (recvCell 0 c) 0
    ∗ semVal (recvCell 1 c) 0
    ∗ semVal (recvCell 2 c) 0
    ∗ rAny 0 c
    ∗ rAny 1 c
    ∗ rAny 2 c
    ∗ sAny 0 c
    ∗ sAny 1 c
    ∗ sAny 2 c
    ∗ stgs m c
    ∗ (((c : Thread nD τ).loc cc0_stg5_0) ↦{fullShare} outAt m c))

set_option maxHeartbeats 1000000 in
/-- The body runs from the one to the other. -/
theorem wp_body (K : Dev nD × Kd → ℕ) (c : Dev nD) (f : (cc0_stg5_0 : Ref sig .tc).ty.Contents (Elt F)) (Q : PUnit → sProp 𝕄) :
    iprop(bodyIn m K c f ∗ (bodyOut m c -∗ Q ⟨⟩))
      ⊢ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3) Q := by
  rw [cc0_body_eq_skeleton]; unfold cc0_body_skel bodyIn bodyOut
  iintro ⟨⟨#HR, #Hlev, HO, Tb0, Tb1, Tb2, Ts0, Ts1, Ts2, Tr0, Tr1, Tr2, Cb, Cr0, Cr1, Cr2, Ab, As0, As1, As2, Ar0, Ar1, Ar2, R0, R1, R2, S0, S1, S2, HS, Ho⟩, HQ⟩
  rw [WP_bind]
  iapply (wp_part1 m K c _)
  isplitr; · iexact HR
  isplitr; · iexact Hlev
  isplitl [HO]; · iexact HO
  isplitl [Tb0]; · iexact Tb0
  isplitl [Tb1]; · iexact Tb1
  isplitl [Tb2]; · iexact Tb2
  isplitl [R0]; · iexact R0
  isplitl [R1]; · iexact R1
  isplitl [R2]; · iexact R2
  isplitl [Cb]; · iexact Cb
  isplitl [Ab]; · iexact Ab
  iintro ⟨HO, Zb, X0, X1, X2⟩
  dsimp only
  rw [WP_bind]
  iapply (wp_part2 m K c _)
  isplitl [HS]; · iexact HS
  iintro HS
  dsimp only
  rw [WP_bind]
  iapply (wp_part3 m K c _)
  isplitl [HS]; · iexact HS
  iintro HS
  dsimp only
  rw [WP_bind]
  iapply (wp_part4 m K c _)
  isplitl [HS]; · iexact HS
  iintro HS
  dsimp only
  rw [WP_bind]
  iapply (wp_part5 m K c _)
  isplitl [HS]; · iexact HS
  iintro HS
  dsimp only
  rw [WP_bind]
  iapply (wp_part6 m K c _)
  isplitl [HS]; · iexact HS
  iintro HS
  dsimp only
  rw [WP_bind]
  iapply (wp_part7 m K c _)
  isplitl [HS]; · iexact HS
  iintro HS
  dsimp only
  rw [WP_bind]
  iapply (wp_part8 m K c _)
  isplitr; · iexact HR
  isplitr; · iexact Hlev
  isplitl [HO]; · iexact HO
  isplitl [S0]; · iexact S0
  isplitl [X0]; · iexact X0
  isplitl [Ts0]; · iexact Ts0
  isplitl [Tr0]; · iexact Tr0
  isplitl [As0]; · iexact As0
  iintro ⟨HO, Zs0, S0⟩
  rw [WP_bind]
  iapply (wp_part9 m K c _)
  isplitr; · iexact HR
  isplitr; · iexact Hlev
  isplitl [HO]; · iexact HO
  isplitl [Cr0]; · iexact Cr0
  isplitl [Ar0]; · iexact Ar0
  iintro ⟨HO, Zr0, R0⟩
  dsimp only
  rw [WP_bind]
  iapply (wp_part10 m K c _)
  isplitl [R0]; · iexact R0
  iintro R0
  dsimp only
  rw [WP_bind]
  iapply (wp_part11 m K c _)
  isplitl [R0]; · iexact R0
  iintro R0
  dsimp only
  rw [WP_bind]
  iapply (wp_part12 m K c _)
  isplitl [R0]; · iexact R0
  isplitl [S1]; · iexact S1
  iintro ⟨R0, S1⟩
  dsimp only
  rw [WP_bind]
  iapply (wp_part13 m K c _)
  isplitr; · iexact HR
  isplitr; · iexact Hlev
  isplitl [HO]; · iexact HO
  isplitl [S1]; · iexact S1
  isplitl [X1]; · iexact X1
  isplitl [Ts1]; · iexact Ts1
  isplitl [Tr1]; · iexact Tr1
  isplitl [As1]; · iexact As1
  isplitl [Cr1]; · iexact Cr1
  isplitl [Ar1]; · iexact Ar1
  iintro ⟨HO, Zs1, S1, Zr1, R1⟩
  dsimp only
  rw [WP_bind]
  iapply (wp_part14 m K c _)
  isplitl [R1]; · iexact R1
  iintro R1
  dsimp only
  rw [WP_bind]
  iapply (wp_part15 m K c _)
  isplitl [R1]; · iexact R1
  iintro R1
  dsimp only
  rw [WP_bind]
  iapply (wp_part16 m K c _)
  isplitl [R1]; · iexact R1
  iintro R1
  dsimp only
  rw [WP_bind]
  iapply (wp_part17 m K c _)
  isplitr; · iexact HR
  isplitl [HO]; · iexact HO
  isplitl [S2]; · iexact S2
  isplitl [X2]; · iexact X2
  isplitl [Ts2]; · iexact Ts2
  isplitl [Tr2]; · iexact Tr2
  iintro ⟨HO, Cs2⟩
  rw [WP_bind]
  iapply (wp_part18 m K c _)
  isplitr; · iexact HR
  isplitr; · iexact Hlev
  isplitl [HO]; · iexact HO
  isplitl [Cs2]; · iexact Cs2
  isplitl [As2]; · iexact As2
  isplitl [Cr2]; · iexact Cr2
  isplitl [Ar2]; · iexact Ar2
  iintro ⟨HO, Zs2, S2, Zr2, R2⟩
  dsimp only
  rw [WP_bind]
  iapply (wp_part19 m K c _)
  isplitl [R2]; · iexact R2
  iintro R2
  dsimp only
  rw [WP_bind]
  iapply (wp_part20 m K c _)
  isplitl [R2]; · iexact R2
  iintro R2
  dsimp only
  rw [WP_bind]
  iapply (wp_part21 m K c _ _)
  isplitl [HS]; · iexact HS
  isplitl [R2]; · iexact R2
  isplitl [Ho]; · iexact Ho
  iintro ⟨HS, R2, Ho⟩
  dsimp only
  simp only [Prog.lift, Prog.bind_op, Prog.bind_ret, Prog.pure_eq_ret]
  iapply (wp_load 𝒱₀ (c : Thread nD τ) none Set.univ (m := Memref.whole cc0_stg5_0) (Finset.subset_univ _)) $$ Ho; iintro Ho
  iapply (wp_store 𝒱₀ (c : Thread nD τ) none Set.univ (m := Memref.whole cc0_stg5_0) (r := outRect 1) (Mk := Finset.univ) (Finset.subset_univ _)) $$ Ho; iintro Ho
  ihave Ho := (Entails.of_eq (out_eq m c f (k0_pay1 (v792 (args m c) (got0 m c) (got1 m c) (got2 m c)) (v806 (args m c) (got0 m c) (got1 m c) (got2 m c)) (v811 (args m c) (got0 m c) (got1 m c) (got2 m c)) (v825 (args m c) (got0 m c) (got1 m c) (got2 m c)) (v830 (args m c) (got0 m c) (got1 m c) (got2 m c)) (v832 (args m c) (got0 m c) (got1 m c) (got2 m c)) (v848 (args m c) (got0 m c) (got1 m c) (got2 m c)) (v849 (args m c) (got0 m c) (got1 m c) (got2 m c))) rfl)) $$ Ho
  iapply (WP_ret c); iapply HQ
  isplitl [HO]; · iexact HO
  isplitl [Zb]; · iexact Zb
  isplitl [Zs0]; · iexact Zs0
  isplitl [Zs1]; · iexact Zs1
  isplitl [Zs2]; · iexact Zs2
  isplitl [Zr0]; · iexact Zr0
  isplitl [Zr1]; · iexact Zr1
  isplitl [Zr2]; · iexact Zr2
  isplitl [R0]; · unfold rAny; iexists _; iexact R0
  isplitl [R1]; · unfold rAny; iexists _; iexact R1
  isplitl [R2]; · unfold rAny; iexists _; iexact R2
  isplitl [S0]; · iexact S0
  isplitl [S1]; · iexact S1
  isplitl [S2]; · iexact S2
  isplitl [HS]; · iexact HS
  iexact Ho

end Cert.KernelIdeal.Attn

end
-- ==== Proof.Deal.lean ====
/-
# What the launch deals

Every device's seven cells are allocated together; each device starts from every cell's record, its own positions, the
tokens of the duties it pays (its own send duties, and at its partners' cells the barrier and receive duties) and the
credit its waits consume.
-/
module

public import proofs.«01_k».proof.Proof.Body

@[expose] public section

noncomputable section

namespace Cert.KernelIdeal.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Indexing -/

theorem bigSep_kd (Φ : Kd → sProp 𝕄) : bigSep Finset.univ Φ
    = iprop(Φ .bar ∗ Φ (.send 0) ∗ Φ (.send 1) ∗ Φ (.send 2) ∗ Φ (.recv 0) ∗ Φ (.recv 1) ∗ Φ (.recv 2)) :=
  bigSep_univ_eq_bigSepL kinds (by decide) kinds_nodup Φ

/-- The kernel's own semaphores, numbered. -/
abbrev osem : Fin 6 → SemLoc sig
  | 0 => .dma (sendS 0) | 1 => .dma (sendS 1) | 2 => .dma (sendS 2) | 3 => .dma (recvS 0) | 4 => .dma (recvS 1) | 5 => .dma (recvS 2)

theorem ownSemFacts : Pipeline.OwnSemFacts cfg0.spec osem := by decide

/-- Every cell of the protocol. -/
def cellSet : Finset (GSem nD τ sig) := Finset.univ.map ⟨kcell, kcell_injective⟩

/-- The nine duties of a device's own cells: three of the barrier cell, one of each send cell, one of each receive cell. -/
def duty : Fin 9 → SemLoc sig × Fin 3
  | 0 => (.reg barS, 0) | 1 => (.reg barS, 1) | 2 => (.reg barS, 2)
  | 3 => (.dma (sendS 0), 0) | 4 => (.dma (sendS 1), 0) | 5 => (.dma (sendS 2), 0)
  | 6 => (.dma (recvS 0), 0) | 7 => (.dma (recvS 1), 0) | 8 => (.dma (recvS 2), 0)
theorem duty_injective : Function.Injective duty := by decide

/-- A duty of a device as a token's index. -/
def tokOf (cj : Dev nD × Fin 9) : GSem nD τ sig × ℕ × Fin 3 := (((cj.1 : Thread nD τ), (duty cj.2).1), 0, (duty cj.2).2)
theorem tokOf_injective : Function.Injective tokOf := by
  rintro ⟨c, j⟩ ⟨c', j'⟩ h
  have h1 : c = c' := congrArg (fun x : GSem nD τ sig × ℕ × Fin 3 => x.1.1.1) h
  have h2 : duty j = duty j' := congrArg (fun x : GSem nD τ sig × ℕ × Fin 3 => (x.1.2, x.2.2)) h
  rw [h1, duty_injective h2]
/-- Every token. -/
def tokSet : Finset (GSem nD τ sig × ℕ × Fin 3) := Finset.univ.map ⟨tokOf, tokOf_injective⟩

/-- The launch's ghost element: the pipeline library's and the exchange's. -/
def u₀ : UU :=
  (initOf (Pipeline.cells cfgs cellOf_inj) (Pipeline.launchToks cfgs cellOf_inj), initOf cellSet tokSet)

/-! ## Tokens, positions -/

/-- The tokens of device `c`'s own cells. -/
def toks (c : Dev nD) : sProp 𝕄 :=
  iprop(dutyTok ER (barCell c) 0 0 ∗ dutyTok ER (barCell c) 0 1 ∗ dutyTok ER (barCell c) 0 2 ∗ dutyTok ER (sendCell 0 c) 0 0 ∗ dutyTok ER (sendCell 1 c) 0 0 ∗ dutyTok ER (sendCell 2 c) 0 0 ∗ dutyTok ER (recvCell 0 c) 0 0 ∗ dutyTok ER (recvCell 1 c) 0 0 ∗ dutyTok ER (recvCell 2 c) 0 0)

/-- The tokens of the duties device `c` pays. -/
def payToks (c : Dev nD) : sProp 𝕄 :=
  iprop(dutyTok ER (barCell (pw 0 c)) 0 0 ∗ dutyTok ER (barCell (pw 1 c)) 0 1 ∗ dutyTok ER (barCell (pw 2 c)) 0 2 ∗ dutyTok ER (sendCell 0 c) 0 0 ∗ dutyTok ER (sendCell 1 c) 0 0 ∗ dutyTok ER (sendCell 2 c) 0 0 ∗ dutyTok ER (recvCell 0 (pw 0 c)) 0 0 ∗ dutyTok ER (recvCell 1 (pw 1 c)) 0 0 ∗ dutyTok ER (recvCell 2 (pw 2 c)) 0 0)

/-- Device `c`'s positions at its own cells. -/
def positions (c : Dev nD) : sProp 𝕄 := bigSep Finset.univ fun k : Kd => atPos ER (kcell (c, k)) 0 ∅ 0

/-- Each device's tokens go to the partners that pay them. -/
theorem toks_exchange : (bigSep Finset.univ fun c : Dev nD => (toks c : sProp 𝕄)) ⊢ bigSep Finset.univ fun c : Dev nD => payToks c := by
  unfold toks payToks
  simp only [bigSep_sep']
  rw [bigSep_univ_equiv (pwEquiv 0) (fun c : Dev nD => (dutyTok ER (barCell c) 0 0 : sProp 𝕄)),
    bigSep_univ_equiv (pwEquiv 1) (fun c : Dev nD => (dutyTok ER (barCell c) 0 1 : sProp 𝕄)),
    bigSep_univ_equiv (pwEquiv 2) (fun c : Dev nD => (dutyTok ER (barCell c) 0 2 : sProp 𝕄)),
    bigSep_univ_equiv (pwEquiv 0) (fun c : Dev nD => (dutyTok ER (recvCell 0 c) 0 0 : sProp 𝕄)),
    bigSep_univ_equiv (pwEquiv 1) (fun c : Dev nD => (dutyTok ER (recvCell 1 c) 0 0 : sProp 𝕄)),
    bigSep_univ_equiv (pwEquiv 2) (fun c : Dev nD => (dutyTok ER (recvCell 2 c) 0 0 : sProp 𝕄))]
  exact .rfl

/-- The launch's share of device `c`: the state of its cells, its positions and marks, its cells' tokens. -/
def dealt (c : Dev nD) : sProp 𝕄 :=
  iprop((bigSep Finset.univ fun k : Kd => roundState ER (sch m) (kcell (c, k)) 0)
    ∗ (bigSep Finset.univ fun k : Kd => iprop(atPos ER (kcell (c, k)) 0 ∅ 0 ∗ reached ER (kcell (c, k)) 0)) ∗ toks c)

/-- What device `c` starts from once every cell is allocated. -/
def ghost (c : Dev nD) : sProp 𝕄 := iprop(∃ K, records m K ∗ positions c ∗ payToks c)

theorem toks_eq (c : Dev nD) : (bigSep Finset.univ fun j : Fin 9 => dutyTok ER (tokOf (c, j)).1 (tokOf (c, j)).2.1 (tokOf (c, j)).2.2 : sProp 𝕄) = toks c := by
  rw [bigSep_univ_eq_bigSepL [0, 1, 2, 3, 4, 5, 6, 7, 8] (by decide) (by decide)]
  unfold toks tokOf duty
  rfl

theorem fund_cells : BI.own (ER (initOf cellSet tokSet)) ⊢ (|==> bigSep Finset.univ (dealt m) : sProp 𝕄) := by
  have hC (Φ : GSem nD τ sig → sProp 𝕄) : bigSep cellSet Φ = bigSep Finset.univ fun c : Dev nD => bigSep Finset.univ fun k : Kd => Φ (kcell (c, k)) := by
    unfold cellSet; rw [bigSep_map, bigSep_univ_prod]; rfl
  have hT : bigSep tokSet (fun x => (dutyTok ER x.1 x.2.1 x.2.2 : sProp 𝕄)) = bigSep Finset.univ fun c : Dev nD => toks c := by
    unfold tokSet; rw [bigSep_map, bigSep_univ_prod]
    exact bigSep_congr fun c _ => toks_eq c
  iintro H
  imod (Rounds.fund ER (sch m) cellSet tokSet) $$ H with ⟨Hst, Hr, Hat, Htok⟩
  imodintro
  ihave Hst := (Entails.of_eq (hC fun g => roundState ER (sch m) g 0)) $$ Hst
  ihave Hat := (Entails.of_eq (hC fun g => atPos ER g 0 ∅ 0)) $$ Hat
  ihave Hr := (Entails.of_eq (hC fun g => reached ER g 0)) $$ Hr
  ihave Htok := (Entails.of_eq hT) $$ Htok
  unfold dealt; simp only [bigSep_sep']
  isplitl [Hst]; · iexact Hst
  isplitl [Hat Hr]
  · isplitl [Hat] <;> iassumption
  iexact Htok

/-! ## The semaphores at launch and at the end -/

/-- The seven counters of a device at zero are the launch's: six of the kernel's own and the barrier's. -/
theorem counters_eq (c : Dev nD) :
    iprop(Pipeline.ownSems0 (Ix := Unit) (Name := ℕ) (U := UU) (Lvl := ℕ) (Val := Elt F) (τ := τ) osem c ∗ unscopedSems0 c)
      = (iprop((semVal (sendCell 0 c) 0 ∗ semVal (sendCell 1 c) 0 ∗ semVal (sendCell 2 c) 0 ∗ semVal (recvCell 0 c) 0 ∗ semVal (recvCell 1 c) 0
          ∗ semVal (recvCell 2 c) 0) ∗ semVal (barCell c) 0) : sProp 𝕄) := by
  have h1 : (Pipeline.ownSems0 (Ix := Unit) (Name := ℕ) (U := UU) (Lvl := ℕ) (Val := Elt F) (τ := τ) osem c : sProp 𝕄) = _ :=
    Pipeline.ownSems0_eq_of_list c osem [0, 1, 2, 3, 4, 5] (by decide) (by decide)
  have h2 : (unscopedSems0 c : sProp 𝕄) = semVal (barCell c) 0 := by
    unfold unscopedSems0; exact bigSep_eq_bigSepL_of_eq [SemLoc.reg barS] (by decide) (by decide) _
  rw [h1, h2]; rfl

theorem alloc_core (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k => iprop(∃ κ : ℕ, cellInv ER (sch m) κ (kcell (c, k))))
          ∗ (bigSep Finset.univ fun k => iprop(atPos ER (kcell (c, k)) 0 ∅ 0 ∗ reached ER (kcell (c, k)) 0)) ∗ toks c) := by
  have hall : iprop((bigSep Finset.univ fun k : Kd => semVal (kcell (c, k)) 0) ∗ bigSep Finset.univ fun k : Kd => roundState ER (sch m) (kcell (c, k)) 0)
      ⊢ (|={Set.univ}=> bigSep Finset.univ fun k => iprop(∃ κ : ℕ, cellInv ER (sch m) κ (kcell (c, k))) : sProp 𝕄) := by
    rw [← bigSep_sep']
    exact (bigSep_mono fun k _ => (Rounds.body_intro ER (sch m) (kcell (c, k))).trans inv_alloc).trans (bigSep_fupd _ _)
  unfold dealt
  iintro ⟨Hos, Hus, Hst, Hat, Htok⟩
  ihave Hv := (Entails.of_eq (counters_eq (F := F) c)) $$ [Hos Hus]
  · isplitl [Hos] <;> iassumption
  icases Hv with ⟨⟨H0, H1, H2, H3, H4, H5⟩, HB⟩
  imod hall $$ [H0 H1 H2 H3 H4 H5 HB Hst] with Hinv
  · isplitr [Hst]
    · rw [bigSep_kd]
      isplitl [HB]; · iexact HB
      isplitl [H0]; · iexact H0
      isplitl [H1]; · iexact H1
      isplitl [H2]; · iexact H2
      isplitl [H3]; · iexact H3
      isplitl [H4]; · iexact H4
      iexact H5
    · iexact Hst
  imodintro
  isplitl [Hinv]; · iexact Hinv
  isplitl [Hat]; · iexact Hat
  iexact Htok

/-- A persistent part goes to every member. -/
theorem spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal_around :
    (bigSep Finset.univ fun c : Dev nD => iprop((bigSep Finset.univ fun k => iprop(∃ κ : ℕ, cellInv ER (sch m) κ (kcell (c, k))))
          ∗ (bigSep Finset.univ fun k => iprop(atPos ER (kcell (c, k)) 0 ∅ 0 ∗ reached ER (kcell (c, k)) 0)) ∗ toks c) : sProp 𝕄)
      ⊢ bigSep Finset.univ (ghost m) := by
  simp only [bigSep_sep']
  rw [← bigSep_univ_prod (fun ck : Dev nD × Kd => iprop(∃ κ : ℕ, cellInv ER (sch m) κ (kcell ck))),
    ← bigSep_univ_prod (fun ck : Dev nD × Kd => (reached ER (kcell ck) 0 : sProp 𝕄))]
  iintro ⟨HI, ⟨Hat, #HR⟩, Htok⟩
  ihave HK := (BI.bigSep_exists_pi Finset.univ (fun (ck : Dev nD × Kd) (κ : ℕ) => (cellInv ER (sch m) κ (kcell ck) : sProp 𝕄))) $$ HI
  icases HK with ⟨%K, #HI⟩
  ihave Htok := (toks_exchange (F := F)) $$ Htok
  have hg : ∀ c ∈ (Finset.univ : Finset (Dev nD)), iprop(records m K ∗ (positions c ∗ payToks c)) ⊢ ghost m c := fun c _ => by
    unfold ghost; iintro H; iexists K; iexact H
  iapply (spread hg)
  isplitr
  · unfold records; isplitl; · iexact HI
    iexact HR
  · rw [bigSep_sep']
    isplitl [Hat]; · unfold positions; iexact Hat
    iexact Htok

/-- All devices' cells at once: from the counters at zero to what each device starts from. -/
theorem deal : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (ghost m) :=
  ((bigSep_mono fun c _ => alloc_core m c).trans (bigSep_fupd _ _)).trans (BI.fupd_mono (deal_around m))

/-! ## The launch credit -/

/-- What a tally at a partner's cell says of device `c`'s cell. -/
theorem owed_at (k : Fin 3) (kd kd' : Kd) (w : ℕ) (d c : Dev nD) :
    (tallyAt (kcell (pw k d, kd)) () w : CellTallies nD τ sig Unit) (kcell (c, kd')) () = if d = pw k c ∧ kd' = kd then w else 0 := by
  rw [tallyAt_apply]
  refine if_congr ⟨fun h => ?_, fun h => ?_⟩ rfl rfl
  · have := kcell_injective h.1
    obtain ⟨h1, h2⟩ := Prod.mk.inj this
    exact ⟨by rw [h1, pw_pw], h2⟩
  · obtain ⟨rfl, rfl⟩ := h
    rw [pw_pw]; exact ⟨rfl, rfl⟩

/-- The units device `d` owes at launch at a cell of device `c`. -/
theorem owed_launch (kd : Kd) (d c : Dev nD) : O₀ d (kcell (c, kd)) ()
    = (((((if d = pw 2 c ∧ kd = .recv 2 then N else 0) + (if d = pw 1 c ∧ kd = .recv 1 then N else 0)) + (if d = pw 0 c ∧ kd = .recv 0 then N else 0))
      + (if d = pw 2 c ∧ kd = .bar then 1 else 0)) + (if d = pw 1 c ∧ kd = .bar then 1 else 0)) + (if d = pw 0 c ∧ kd = .bar then 1 else 0) := by
  rw [← owed_at 2 (.recv 2) kd N d c, ← owed_at 1 (.recv 1) kd N d c, ← owed_at 0 (.recv 0) kd N d c, ← owed_at 2 .bar kd 1 d c, ← owed_at 1 .bar kd 1 d c, ← owed_at 0 .bar kd 1 d c]
  rfl

/-- The credit a cell of device `c` is launched with. -/
theorem launch_at (c : Dev nD) (kd : Kd) (w : ℕ) (h : ∑ d : Dev nD, O₀ d (kcell (c, kd)) () = w) :
    tallyOn (kcell (c, kd)) (launchCredit (Pipeline.owing O₀) 0 (kcell (c, kd))) = (tallyAt (kcell (c, kd)) () w : CellTallies nD τ sig Unit) := by
  unfold tallyAt; refine congrArg _ (Finsupp.ext fun u => ?_); cases u
  rw [Pipeline.launchCredit_owing, Finsupp.single_eq_same, h]

theorem launch_bar (c : Dev nD) : tallyOn (barCell c) (launchCredit (Pipeline.owing O₀) 0 (barCell c)) = (tallyAt (barCell c) () 3 : CellTallies nD τ sig Unit) := by
  refine launch_at c .bar 3 ?_
  rw [Finset.sum_congr rfl fun d _ => owed_launch .bar d c]
  simp [Finset.sum_add_distrib]
theorem launch_recv (k : Fin 3) (c : Dev nD) :
    tallyOn (recvCell k c) (launchCredit (Pipeline.owing O₀) 0 (recvCell k c)) = (tallyAt (recvCell k c) () N : CellTallies nD τ sig Unit) := by
  refine launch_at c (.recv k) N ?_
  rw [Finset.sum_congr rfl fun d _ => owed_launch (.recv k) d c]
  fin_cases k <;> simp [Finset.sum_add_distrib]

theorem credits (c : Dev nD) : (Pipeline.launchCred O₀ c : sProp 𝕄)
    ⊢ iprop(cred (tallyAt (barCell c) () 3) ∗ cred (tallyAt (recvCell 0 c) () N) ∗ cred (tallyAt (recvCell 1 c) () N) ∗ cred (tallyAt (recvCell 2 c) () N)) := by
  have h : (bigSep Finset.univ fun kd : Kd => (cred (tallyOn (kcell (c, kd)) (launchCredit (Pipeline.owing O₀) 0 (kcell (c, kd)))) : sProp 𝕄))
      ⊢ iprop(cred (tallyAt (barCell c) () 3) ∗ cred (tallyAt (recvCell 0 c) () N) ∗ cred (tallyAt (recvCell 1 c) () N) ∗ cred (tallyAt (recvCell 2 c) () N)) := by
    rw [bigSep_kd, ← launch_bar, ← launch_recv, ← launch_recv, ← launch_recv]
    iintro ⟨HB, -, -, -, H0, H1, H2⟩
    isplitl [HB]; · iexact HB
    isplitl [H0]; · iexact H0
    isplitl [H1]; · iexact H1
    iexact H2
  exact (bigSep_subset (t := Finset.univ.map ⟨csem, csem_injective⟩) (Finset.subset_univ _)).trans
    ((Entails.of_eq (bigSep_map (s := Finset.univ) ⟨csem, csem_injective⟩)).trans h)

end Cert.KernelIdeal.Attn

end
-- ==== Proof.Run.lean ====
/-
# The run

The launch of the kernel on the eight devices, from any memory with zero counters, for any float values: every fair
execution ends with each device's result at the computed value, the arguments as they were and every counter at zero
(`run_main`).
-/
module

public import proofs.«01_k».proof.Proof.Deal
public import Idealize.ShloMosaic.Lib.Pipeline.CollectiveSegs

@[expose] public section

noncomputable section

namespace Cert.KernelIdeal.Attn

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
/-- The one grid point. -/
def pt : Fin cfg0.N := ⟨0, by rw [cfg0_N]; decide⟩
theorem fin_pt (t : Fin cfg0.N) : t = pt := by
  obtain ⟨t, ht⟩ := t; have := cfg0_N; exact Fin.ext (by simp only [pt]; omega)

/-- The exchange buffers of device `c`, any contents. -/
def bufs (c : Dev nD) : sProp 𝕄 :=
  iprop((∃ f : Buf (Elt F) (((c : Dev nD) : Thread nD τ).loc cc0_scratch0), (((c : Thread nD τ).loc cc0_scratch0) ↦{fullShare} f))
    ∗ (∃ f : Buf (Elt F) (((c : Dev nD) : Thread nD τ).loc cc0_scratch1), (((c : Thread nD τ).loc cc0_scratch1) ↦{fullShare} f)))

/-- What device `c`'s body starts from. -/
def start (c : Dev nD) : sProp 𝕄 :=
  iprop(ghost m c ∗ (cred (tallyAt (barCell c) () 3) ∗ cred (tallyAt (recvCell 0 c) () N) ∗ cred (tallyAt (recvCell 1 c) () N) ∗ cred (tallyAt (recvCell 2 c) () N))
    ∗ levAts L lv)
/-- Device `c`'s counters at zero. -/
def zeros (c : Dev nD) : sProp 𝕄 :=
  iprop((semVal (sendCell 0 c) 0 ∗ semVal (sendCell 1 c) 0 ∗ semVal (sendCell 2 c) 0 ∗ semVal (recvCell 0 c) 0 ∗ semVal (recvCell 1 c) 0
          ∗ semVal (recvCell 2 c) 0) ∗ semVal (barCell c) 0)
/-- Before the point, -/
def phi0 (c : Dev nD) : sProp 𝕄 := iprop(start m c ∗ bufs c)
/-- and after it. -/
def phi1 (c : Dev nD) : sProp 𝕄 := iprop(zeros c ∗ bufs c)

/-- The proof's data: the arrays at entry, the staging buffers after the point, the invariant and what is owed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (args m c).x
    | ⟨1, _⟩ => (args m c).wq
    | ⟨2, _⟩ => (args m c).k
    | ⟨3, _⟩ => (args m c).v
    | ⟨4, _⟩ => (args m c).wo
    | ⟨5, _⟩ => outAt m c
  Φ t := match t with
    | ⟨0, _⟩ => phi0 m c
    | ⟨_ + 1, _⟩ => phi1 c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body obligation's premise at the point, -/
def pointIn (c : Dev nD) : sProp 𝕄 :=
  iprop(phi0 m c ∗ (dats m ρ 0 c).owesAt () pt.castSucc
    ∗ (∃ d, stg c cc0_stg0_0 ((dats m ρ 0 c).before (0 : Fin 6) pt d))
    ∗ (∃ d, stg c cc0_stg1_0 ((dats m ρ 0 c).before (1 : Fin 6) pt d))
    ∗ (∃ d, stg c cc0_stg2_0 ((dats m ρ 0 c).before (2 : Fin 6) pt d))
    ∗ (∃ d, stg c cc0_stg3_0 ((dats m ρ 0 c).before (3 : Fin 6) pt d))
    ∗ (∃ d, stg c cc0_stg4_0 ((dats m ρ 0 c).before (4 : Fin 6) pt d))
    ∗ (∃ d, stg c cc0_stg5_0 ((dats m ρ 0 c).before (5 : Fin 6) pt d)))
/-- and its conclusion. -/
def pointOut (c : Dev nD) : sProp 𝕄 :=
  iprop(phi1 c ∗ (dats m ρ 0 c).owesAt () pt.succ
    ∗ stg c cc0_stg0_0 (args m c).x
    ∗ stg c cc0_stg1_0 (args m c).wq
    ∗ stg c cc0_stg2_0 (args m c).k
    ∗ stg c cc0_stg3_0 (args m c).v
    ∗ stg c cc0_stg4_0 (args m c).wo
    ∗ stg c cc0_stg5_0 (outAt m c))

set_option maxHeartbeats 1000000 in
theorem point_body (c : Dev nD) :
    pointIn m ρ c ⊢ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) cc0_scratch2 cc0_scratch3) (fun _ => pointOut m ρ c) := by
  have hbef : ∀ (w : Fin 5) (d), (dats m ρ 0 c).before w.castSucc pt d = (dats m ρ 0 c).after w.castSucc pt := fun w d => by
    unfold Dat.before; rw [if_pos (by fin_cases w <;> rfl)]; fin_cases w <;> rfl
  unfold pointIn phi0 start bufs ghost positions payToks
  rw [bigSep_kd]
  iintro ⟨⟨⟨⟨%K, #HR, ⟨Ab, As0, As1, As2, Ar0, Ar1, Ar2⟩, Tb0, Tb1, Tb2, Ts0, Ts1, Ts2, Tr0, Tr1, Tr2⟩, ⟨Cb, Cr0, Cr1, Cr2⟩, #Hlev⟩, ⟨%f0, Hs⟩, ⟨%f1, Hr⟩⟩, Ho,
    ⟨%d0, %g0, %hg0, Hx⟩, ⟨%d1, %g1, %hg1, Hwq⟩, ⟨%d2, %g2, %hg2, Hk⟩, ⟨%d3, %g3, %hg3, Hv⟩, ⟨%d4, %g4, %hg4, Hwo⟩, ⟨%d5, %g5, %hg5, Hout⟩⟩
  have e0 : g0 = (args m c).x := hg0.trans (hbef 0 d0)
  have e1 : g1 = (args m c).wq := hg1.trans (hbef 1 d1)
  have e2 : g2 = (args m c).k := hg2.trans (hbef 2 d2)
  have e3 : g3 = (args m c).v := hg3.trans (hbef 3 d3)
  have e4 : g4 = (args m c).wo := hg4.trans (hbef 4 d4)
  rw [e0, e1, e2, e3, e4]
  unfold Dat.owesAt Pipeline.owesWithin
  icases Ho with ⟨%W, %hW, HO⟩
  rw [show (dats m ρ 0 c).owed pt.castSucc = O₀ c from rfl]
  ihave Hs := (sSplit c f0) $$ Hs
  icases Hs with ⟨S0, S1, S2⟩
  ihave Hr := (rSplit c f1) $$ Hr
  icases Hr with ⟨R0, R1, R2⟩
  iapply (wp_body m K c g5 _)
  isplitl [HO Tb0 Tb1 Tb2 Ts0 Ts1 Ts2 Tr0 Tr1 Tr2 Cb Cr0 Cr1 Cr2 Ab As0 As1 As2 Ar0 Ar1 Ar2 R0 R1 R2 S0 S1 S2 Hx Hwq Hk Hv Hwo Hout]
  · unfold bodyIn stgs owe
    isplitr; · iexact HR
    isplitr; · iexact Hlev
    isplitl [HO]; · iexists W; iexact HO
    isplitl [Tb0]; · iexact Tb0
    isplitl [Tb1]; · iexact Tb1
    isplitl [Tb2]; · iexact Tb2
    isplitl [Ts0]; · iexact Ts0
    isplitl [Ts1]; · iexact Ts1
    isplitl [Ts2]; · iexact Ts2
    isplitl [Tr0]; · iexact Tr0
    isplitl [Tr1]; · iexact Tr1
    isplitl [Tr2]; · iexact Tr2
    isplitl [Cb]; · iexact Cb
    isplitl [Cr0]; · iexact Cr0
    isplitl [Cr1]; · iexact Cr1
    isplitl [Cr2]; · iexact Cr2
    isplitl [Ab]; · iexact Ab
    isplitl [As0]; · iexact As0
    isplitl [As1]; · iexact As1
    isplitl [As2]; · iexact As2
    isplitl [Ar0]; · iexact Ar0
    isplitl [Ar1]; · iexact Ar1
    isplitl [Ar2]; · iexact Ar2
    isplitl [R0]; · iexact R0
    isplitl [R1]; · iexact R1
    isplitl [R2]; · iexact R2
    isplitl [S0]; · iexact S0
    isplitl [S1]; · iexact S1
    isplitl [S2]; · iexact S2
    isplitl [Hx Hwq Hk Hv Hwo]
    · isplitl [Hx]; · iexact Hx
      isplitl [Hwq]; · iexact Hwq
      isplitl [Hk]; · iexact Hk
      isplitl [Hv]; · iexact Hv
      iexact Hwo
    iexact Hout
  · unfold bodyOut
    iintro ⟨HO, Zb, Zs0, Zs1, Zs2, Zr0, Zr1, Zr2, R0, R1, R2, S0, S1, S2, HS, Ho⟩
    unfold pointOut phi1 zeros bufs Dat.owesAt Pipeline.owesWithin stgs owe
    rw [show (dats m ρ 0 c).owed pt.succ = 0 from rfl]
    icases HS with ⟨Hx, Hwq, Hk, Hv, Hwo⟩
    icases HO with ⟨%W', HO⟩
    isplitl [Zb Zs0 Zs1 Zs2 Zr0 Zr1 Zr2 R0 R1 R2 S0 S1 S2]
    · isplitl [Zb Zs0 Zs1 Zs2 Zr0 Zr1 Zr2]
      · isplitl [Zs0 Zs1 Zs2 Zr0 Zr1 Zr2]
        · isplitl [Zs0]; · iexact Zs0
          isplitl [Zs1]; · iexact Zs1
          isplitl [Zs2]; · iexact Zs2
          isplitl [Zr0]; · iexact Zr0
          isplitl [Zr1]; · iexact Zr1
          iexact Zr2
        iexact Zb
      isplitl [S0 S1 S2]
      · iapply (sJoin c)
        isplitl [S0]; · iexact S0
        isplitl [S1]; · iexact S1
        iexact S2
      iapply (rJoin c)
      isplitl [R0]; · iexact R0
      isplitl [R1]; · iexact R1
      iexact R2
    isplitl [HO]
    · iexists W'
      isplitr; · ipureintro; exact fun _ _ => Or.inl trivial
      iexact HO
    isplitl [Hx]; · iexists _; isplitr; · (ipureintro; rfl)
                    iexact Hx
    isplitl [Hwq]; · iexists _; isplitr; · (ipureintro; rfl)
                     iexact Hwq
    isplitl [Hk]; · iexists _; isplitr; · (ipureintro; rfl)
                    iexact Hk
    isplitl [Hv]; · iexists _; isplitr; · (ipureintro; rfl)
                    iexact Hv
    isplitl [Hwo]; · iexists _; isplitr; · (ipureintro; rfl)
                     iexact Hwo
    iexists _; isplitr; · (ipureintro; rfl)
    iexact Ho

/-- The body obligation on device `c`. -/
theorem body_obligation (c : Dev nD) : BodyObligation (dats (F := F) m ρ 0 c) (defs₀ (F := F)) 𝒱₀ () Set.univ := fun t => by
  rw [fin_pt t]
  rw [bigSep_W0, bigSep_W0]
  simp only [owns_whole_eq]
  exact point_body m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  iintro ⟨-, Hlev, Hcr, -, HG⟩
  ihave Hc := (credits (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = phi0 m c from rfl, scopedRest0_eq]
  unfold phi0 bufs
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = phi1 c from rfl, scopedRest0_eq]
  unfold phi1 zeros bufs
  iintro ⟨Hz, Hr⟩
  ihave Hz := (Entails.of_eq (counters_eq (F := F) c).symm) $$ Hz
  icases Hz with ⟨Ho, Hu⟩
  isplitl [Hu]; · iexact Hu
  isplitl [Ho]; · iexact Ho
  iexact Hr

theorem lv_eq (c : Dev nD) (sm : SemLoc sig) : lv ((c : Thread nD τ), sm) () = match kindOf sm with | some .bar => 1 | some (.recv k) => 2 + k.val | _ => 0 := rfl

theorem waits (c : Dev nD) : (levAts L lv : sProp 𝕄) ⊢ Pipeline.cellsWaits cfgs (dats m ρ) () 0 c :=
  Pipeline.cellsWaits_intro cfgs (dats m ρ) () 0 c fun w s t =>
    mayWait_of 0 c _ _ (by rw [lv_eq]; fin_cases w <;> fin_cases s <;> decide) (by
      rcases t with ⟨_ | _, ht⟩
      · exact over_O₀ c
      · exact over_zero 0)

/-- The contents of a window's array after the run. -/
def finalA (c : Dev nD) (w : Fin cfg0.W) : Buf (Elt F) ((cfg0.win w).arr.view.loc (c : Thread nD τ)) := (dats m ρ 0 c).arrAt w cfg0.N

/-- Every window's array ends at those contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values, every fair execution of the kernel on the eight devices ends,
    with every array at its final contents and every counter at zero. -/
theorem run_windows : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m) (G' := ghost m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := deal m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Attn

end
-- ==== Proof.Result.lean ====
/-
# What the run leaves

The arrays of the launch after the run: the five arguments hold what they held, and the result of each device is the value
its body computed (`run_main`).
-/
module

public import proofs.«01_k».proof.Proof.Run

@[expose] public section

noncomputable section

namespace Cert.KernelIdeal.Attn

open Cert.KernelIdeal Cert.KernelIdeal.Gen

open Idealize.ShloMosaic Idealize.ShloMosaic.ValueIdx
open Idealize.ShloMosaic.TcCoe
open Idealize.SL.Sem

variable {F : FTy → Type} [FloatOps F]

variable (m : (ℓ : Loc nD τ sig) → Buf (Elt F) ℓ) (ρ : Dev nD → PrngReg)

/-- The queries' array holds what it held. -/
theorem finalA_x (c : Dev nD) : finalA m ρ c (0 : Fin 6) = m ((c.tc : Thread nD τ).loc main_arg0) :=
  (dats (F := F) m ρ 0 c).arrAt_in (0 : Fin 6) rfl _
/-- The query weights' array holds what it held. -/
theorem finalA_wq (c : Dev nD) : finalA m ρ c (1 : Fin 6) = m ((c.tc : Thread nD τ).loc main_arg1) :=
  (dats (F := F) m ρ 0 c).arrAt_in (1 : Fin 6) rfl _
/-- The keys' array holds what it held. -/
theorem finalA_k (c : Dev nD) : finalA m ρ c (2 : Fin 6) = m ((c.tc : Thread nD τ).loc main_arg2) :=
  (dats (F := F) m ρ 0 c).arrAt_in (2 : Fin 6) rfl _
/-- The values' array holds what it held. -/
theorem finalA_v (c : Dev nD) : finalA m ρ c (3 : Fin 6) = m ((c.tc : Thread nD τ).loc main_arg3) :=
  (dats (F := F) m ρ 0 c).arrAt_in (3 : Fin 6) rfl _
/-- The output weights' array holds what it held. -/
theorem finalA_wo (c : Dev nD) : finalA m ρ c (4 : Fin 6) = m ((c.tc : Thread nD τ).loc main_arg4) :=
  (dats (F := F) m ρ 0 c).arrAt_in (4 : Fin 6) rfl _

/-- The result's one block, read back, is what the body left in its staging buffer. -/
theorem finalA_out_read (c : Dev nD) :
    (win0_5.blk (0 : Fin 1)).view.read (Elt F) (finalA m ρ c (5 : Fin 6)) = outAt m c := by
  unfold finalA
  rw [show cfg0.N = ((0 : Fin 1) : Fin cfg0.N).val + 1 from rfl, (dats m ρ 0 c).arrAt_succ (5 : Fin 6) (0 : Fin 1)]
  rw [show (cfg0.win (5 : Fin 6)).flush (0 : Fin 1) = true from by decide, if_pos rfl]
  exact View.read_write_univ _ _

/-- The result's array is what the body left in its staging buffer: its one block is the whole array. -/
theorem finalA_out (c : Dev nD) : finalA m ρ c (5 : Fin 6) = outAt m c := by
  have hz : (fun a => (win0_5.index (0 : Fin 1)) a * main_v1.ty.shape.size a) = fun _ => 0 :=
    funext fun a => by fin_cases a <;> decide
  have hr := fun f => Memref.read_access_unit_zero (Elt F) main_v1 hz (fun a => by fin_cases a <;> decide) f
  exact (hr _).symm.trans (finalA_out_read m ρ c)

/-- An argument's one block is the whole array. -/
theorem args_eq (c : Dev nD) : args m c = ⟨c, m ((c.tc : Thread nD τ).loc main_arg0), m ((c.tc : Thread nD τ).loc main_arg1),
    m ((c.tc : Thread nD τ).loc main_arg2), m ((c.tc : Thread nD τ).loc main_arg3), m ((c.tc : Thread nD τ).loc main_arg4)⟩ := by
  unfold args
  congr 1
  · exact Memref.read_access_unit_zero (Elt F) main_arg0 (funext fun a => by fin_cases a <;> decide) (fun a => by fin_cases a <;> decide) _
  · exact Memref.read_access_unit_zero (Elt F) main_arg1 (funext fun a => by fin_cases a <;> decide) (fun a => by fin_cases a <;> decide) _
  · exact Memref.read_access_unit_zero (Elt F) main_arg2 (funext fun a => by fin_cases a <;> decide) (fun a => by fin_cases a <;> decide) _
  · exact Memref.read_access_unit_zero (Elt F) main_arg3 (funext fun a => by fin_cases a <;> decide) (fun a => by fin_cases a <;> decide) _
  · exact Memref.read_access_unit_zero (Elt F) main_arg4 (funext fun a => by fin_cases a <;> decide) (fun a => by fin_cases a <;> decide) _

/-- From any memory with zero counters, for any float values, every fair execution of the kernel on the eight devices ends,
    with each device's result at the value its body computes from the devices' arguments, the arguments as they were, and
    every counter at zero. -/
theorem run_main : θ_run defs (onTc (τ := τ) (main (F := F))) ⟨m, fun _ => 0, ρ⟩ (fun r => (∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c (5 : Fin 6)).trans (finalA_out m ρ c),
      (h.1 c (0 : Fin 6)).trans (finalA_x m ρ c), (h.1 c (1 : Fin 6)).trans (finalA_wq m ρ c),
      (h.1 c (2 : Fin 6)).trans (finalA_k m ρ c), (h.1 c (3 : Fin 6)).trans (finalA_v m ρ c),
      (h.1 c (4 : Fin 6)).trans (finalA_wo m ρ c)⟩, h.2⟩) (run_windows m ρ)

end Cert.KernelIdeal.Attn

end
-- ==== Proof.Ker.lean ====
/-
# The kernel computes the formula

A device's running maximum, sum and accumulator of a head are the partial softmax over a set of keys: its own 128 keys at
first, and after each exchange the union of its set and its partner's. After three exchanges the set is all the keys, and the
quotient is the softmax's product with the values.
-/
module

public import proofs.«01_k».proof.Proof.Math
public import proofs.«01_k».proof.Proof.Soft
public import proofs.«01_k».proof.Proof.Result

@[expose] public section

set_option maxRecDepth 16384

noncomputable section

namespace Cert.KernelIdeal.Attn

open Cert.KernelIdeal Cert.KernelIdeal.Gen
open Idealize.ShloMosaic Idealize.ShloMosaic.TcCoe

/-- The device that holds a key. -/
def owner (j : Fin 1024) : Dev nD := ⟨j.val / 128, by have := j.isLt; show _ < 8; omega⟩

/-- A device's key, among all the keys. -/
def key (c : Dev nD) (j : Fin 128) : Fin 1024 := ⟨128 * c.val + j.val, by have : c.val < 8 := c.isLt; omega⟩

/-- The keys a device holds, -/
def keys (c : Dev nD) : Finset (Fin 1024) := Finset.univ.filter fun j => owner j = c
/-- those it has seen after one exchange, -/
def keys1 (c : Dev nD) : Finset (Fin 1024) := keys c ∪ keys (pw 0 c)
/-- after two, -/
def keys2 (c : Dev nD) : Finset (Fin 1024) := keys1 c ∪ keys1 (pw 1 c)
/-- and after three. -/
def keys3 (c : Dev nD) : Finset (Fin 1024) := keys2 c ∪ keys2 (pw 2 c)

theorem mem_keys (c : Dev nD) (j : Fin 1024) : j ∈ keys c ↔ owner j = c := by simp [keys]

theorem key_injective (c : Dev nD) : Function.Injective (key c) := fun i j h => by
  have := congrArg Fin.val h
  simp only [key] at this
  exact Fin.ext (by omega)

theorem image_key (c : Dev nD) : Finset.univ.image (key c) = keys c := by
  ext j
  rw [mem_keys, Finset.mem_image]
  constructor
  · rintro ⟨i, _, rfl⟩
    exact Fin.ext (show (128 * c.val + i.val) / 128 = c.val by omega)
  · rintro rfl
    exact ⟨⟨j.val % 128, by omega⟩, Finset.mem_univ _, Fin.ext (show 128 * (j.val / 128) + j.val % 128 = j.val by omega)⟩

theorem disjoint0 (c : Dev nD) : Disjoint (keys c) (keys (pw 0 c)) := by
  rw [Finset.disjoint_left]
  intro j
  simp only [mem_keys]
  generalize owner j = d
  revert c d
  decide

theorem disjoint1 (c : Dev nD) : Disjoint (keys1 c) (keys1 (pw 1 c)) := by
  rw [Finset.disjoint_left]
  intro j
  simp only [keys1, Finset.mem_union, mem_keys]
  generalize owner j = d
  revert c d
  decide

theorem disjoint2 (c : Dev nD) : Disjoint (keys2 c) (keys2 (pw 2 c)) := by
  rw [Finset.disjoint_left]
  intro j
  simp only [keys2, keys1, Finset.mem_union, mem_keys]
  generalize owner j = d
  revert c d
  decide

/-- After three exchanges every key is seen. -/
theorem keys3_univ (c : Dev nD) : keys3 c = Finset.univ := by
  refine Finset.eq_univ_of_forall fun j => ?_
  simp only [keys3, keys2, keys1, Finset.mem_union, mem_keys]
  generalize owner j = d
  revert c d
  decide

section Merge

variable {s : Fin 1024 → ℝ} {v : Fin 1024 → Fin 64 → EReal}

/-- A merge with a received block unites the two sets of keys. -/
theorem merge_at {S T : Finset (Fin 1024)} (hST : Disjoint S T) {m l : FVec Ideal S128x1 .f32} {o : FVec Ideal S128x64 .f32}
    {ms ls : Fin 8 → FVec Ideal S128x1 .f32} {os : Fin 8 → FVec Ideal S128x64 .f32} (i : Fin 128) (h : Fin 8)
    (hS : Soft s v S (m (ix2 i 0)) (l (ix2 i 0)) (fun d => o (ix2 i d)))
    (hT : Soft s v T (ms h (ix2 i 0)) (ls h (ix2 i 0)) (fun d => os h (ix2 i d))) :
    Soft s v (S ∪ T) (mrgM m (unM (flat (mkPack os ms ls)) h) (ix2 i 0))
      (mrgL m l (unM (flat (mkPack os ms ls)) h) (unL (flat (mkPack os ms ls)) h) (ix2 i 0))
      (fun d => mrgO m o (unM (flat (mkPack os ms ls)) h) (unO (flat (mkPack os ms ls)) h) (ix2 i d)) := by
  simp only [mrgM_at, mrgL_at, mrgO_at, unM_pack, unL_pack, unO_pack]
  exact Soft.merge hST hS hT

/-- A device's own keys. -/
theorem local_at (a : Args Ideal) (c : Dev nD) (h : Fin 8) (i : Fin 128)
    (hs : ∀ j, SC a h (ix2 i j) = (s (key c j) : EReal)) (hv : ∀ j d, LV a h (ix4 0 j 0 d) = v (key c j) d) :
    Soft s v (keys c) (M0 a h (ix2 i 0)) (L0 a h (ix2 i 0)) (fun d => O0 a h (ix2 i d)) := by
  simp only [M0_eq, L0_eq, O0_eq, locL_at, locO_at, locE_at, locM_at]
  rw [← image_key]
  exact Soft.of_block (by decide) (key c) (key_injective c) (fun j => SC a h (ix2 i j)) hs (fun j d => LV a h (ix4 0 j 0 d)) hv

variable (m : (ℓ : Loc nD τ sig) → Buf (Elt Ideal) ℓ)

/-- After the three exchanges a device's state of a head is over all the keys. -/
theorem all_at (h : Fin 8) (i : Fin 128)
    (hs : ∀ c j, SC (args m c) h (ix2 i j) = (s (key c j) : EReal))
    (hv : ∀ c j d, LV (args m c) h (ix4 0 j 0 d) = v (key c j) d) (c : Dev nD) :
    ∃ M, Soft s v Finset.univ M (L3 (args m c) (got0 m c) (got1 m c) (got2 m c) h (ix2 i 0))
      (fun d => O3 (args m c) (got0 m c) (got1 m c) (got2 m c) h (ix2 i d)) := by
  have h0 : ∀ c, Soft s v (keys c) (M0 (args m c) h (ix2 i 0)) (L0 (args m c) h (ix2 i 0)) (fun d => O0 (args m c) h (ix2 i d)) :=
    fun c => local_at _ c h i (hs c) (hv c)
  have h1 : ∀ c, Soft s v (keys1 c) (M1 (args m c) (got0 m c) h (ix2 i 0)) (L1 (args m c) (got0 m c) h (ix2 i 0))
      (fun d => O1 (args m c) (got0 m c) h (ix2 i d)) := fun c => by
    simp only [M1_eq, L1_eq, O1_eq]
    rw [show got0 m c = flat (mkPack (O0 (args m (pw 0 c))) (M0 (args m (pw 0 c))) (L0 (args m (pw 0 c)))) from snd0_eq _]
    exact merge_at (disjoint0 c) i h (h0 c) (h0 (pw 0 c))
  have h2 : ∀ c, Soft s v (keys2 c) (M2 (args m c) (got0 m c) (got1 m c) h (ix2 i 0)) (L2 (args m c) (got0 m c) (got1 m c) h (ix2 i 0))
      (fun d => O2 (args m c) (got0 m c) (got1 m c) h (ix2 i d)) := fun c => by
    simp only [M2_eq, L2_eq, O2_eq]
    rw [show got1 m c = flat (mkPack (O1 (args m (pw 1 c)) (got0 m (pw 1 c))) (M1 (args m (pw 1 c)) (got0 m (pw 1 c)))
      (L1 (args m (pw 1 c)) (got0 m (pw 1 c)))) from snd1_eq _ _]
    exact merge_at (disjoint1 c) i h (h1 c) (h1 (pw 1 c))
  simp only [L3_eq, O3_eq]
  rw [show got2 m c = flat (mkPack (O2 (args m (pw 2 c)) (got0 m (pw 2 c)) (got1 m (pw 2 c)))
    (M2 (args m (pw 2 c)) (got0 m (pw 2 c)) (got1 m (pw 2 c))) (L2 (args m (pw 2 c)) (got0 m (pw 2 c)) (got1 m (pw 2 c))))
    from snd2_eq _ _ _, ← keys3_univ c]
  exact ⟨_, merge_at (disjoint2 c) i h (h2 c) (h2 (pw 2 c))⟩

end Merge

/-- What the devices' arguments hold, in terms of the whole arrays: each its 128 keys and values, and everything else. -/
structure Holds (m : (ℓ : Loc nD τ sig) → Buf (Elt Ideal) ℓ) (x : Fin 2 → Fin 128 → Fin 512 → EReal) (wq : Fin 512 → Fin 256 → EReal)
    (k v : Fin 2 → Fin 1024 → Fin 4 → Fin 64 → EReal) (wo : Fin 256 → Fin 512 → EReal) : Prop where
  x : ∀ c b i t, ax (args m c) (ix3 b i t) = x b i t
  wq : ∀ c t e, awq (args m c) (ix2 t e) = wq t e
  k : ∀ c b j h d, ak (args m c) (ix4 b j h d) = k b (key c j) h d
  v : ∀ c b j h d, av (args m c) (ix4 b j h d) = v b (key c j) h d
  wo : ∀ c f e, awo (args m c) (ix2 f e) = wo f e

section Out

variable {m : (ℓ : Loc nD τ sig) → Buf (Elt Ideal) ℓ} {x : Fin 2 → Fin 128 → Fin 512 → EReal} {wq : Fin 512 → Fin 256 → EReal}
  {k v : Fin 2 → Fin 1024 → Fin 4 → Fin 64 → EReal} {wo : Fin 256 → Fin 512 → EReal}

/-- A device's scores are the formula's, at its own keys. -/
theorem SC_at (H : Holds m x wq k v wo) (c : Dev nD) (b : Fin 2) (h : Fin 4) (i j : Fin 128) :
    SC (args m c) ⟨4 * b.val + h.val, by omega⟩ (ix2 i j) = Cert.Attn.sc x wq k b h i (key c j) := by
  have hb : (⟨(4 * b.val + h.val) / 4, by omega⟩ : Fin 2) = b := Fin.ext (show (4 * b.val + h.val) / 4 = b.val by omega)
  have hh : (⟨(4 * b.val + h.val) % 4, by omega⟩ : Fin 4) = h := Fin.ext (show (4 * b.val + h.val) % 4 = h.val by omega)
  have hc : (args m c).c = c := by rw [args_eq]
  unfold SC
  rw [locS_at, mask_at, hc, Cert.Attn.sc]
  refine congrArg (fun t => Scalar.select _ (t * scale) low) (Finset.sum_congr rfl fun d _ => ?_)
  rw [QB_at, LK_at]
  dsimp only
  rw [hb, hh, H.k]
  congr 1
  refine Finset.sum_congr rfl fun t _ => ?_
  rw [H.x, H.wq]
  congr 3
  show 64 * ((4 * b.val + h.val) % 4) + d.val = 64 * h.val + d.val
  omega

/-- A device's values are the whole array's, at its own keys. -/
theorem LV_holds (H : Holds m x wq k v wo) (c : Dev nD) (b : Fin 2) (h : Fin 4) (j : Fin 128) (d : Fin 64) :
    LV (args m c) ⟨4 * b.val + h.val, by omega⟩ (ix4 0 j 0 d) = v b (key c j) h d := by
  have hb : (⟨(4 * b.val + h.val) / 4, by omega⟩ : Fin 2) = b := Fin.ext (show (4 * b.val + h.val) / 4 = b.val by omega)
  have hh : (⟨(4 * b.val + h.val) % 4, by omega⟩ : Fin 4) = h := Fin.ext (show (4 * b.val + h.val) % 4 = h.val by omega)
  rw [LV_at]
  dsimp only
  rw [hb, hh, H.v]

/-- The quotient a device forms of a head is the softmax's product with the values. -/
theorem quot_at (H : Holds m x wq k v wo) (hr : ∀ b h i j, ∃ r : ℝ, Cert.Attn.sc x wq k b h i j = r) (c : Dev nD)
    (b : Fin 2) (h : Fin 4) (i : Fin 128) (d : Fin 64) :
    Ideal.div (O3 (args m c) (got0 m c) (got1 m c) (got2 m c) ⟨4 * b.val + h.val, by omega⟩ (ix2 i d))
        (L3 (args m c) (got0 m c) (got1 m c) (got2 m c) ⟨4 * b.val + h.val, by omega⟩ (ix2 i 0))
      = ∑ j : Fin 1024, v b j h d * Ideal.div (Ideal.exp (Cert.Attn.sc x wq k b h i j
            - Finset.univ.fold max (⊥ : EReal) (Cert.Attn.sc x wq k b h i)))
          (∑ j' : Fin 1024, Ideal.exp (Cert.Attn.sc x wq k b h i j'
            - Finset.univ.fold max (⊥ : EReal) (Cert.Attn.sc x wq k b h i))) := by
  choose s hs using hr b h i
  obtain ⟨M, hM⟩ := all_at (s := s) (v := fun j d => v b j h d) m ⟨4 * b.val + h.val, by omega⟩ i
    (fun c j => (SC_at H c b h i j).trans (hs _)) (fun c j d => LV_holds H c b h j d) c
  exact hM.quotient (by decide) _ hs d

/-- The first four of eight. -/
theorem pick0 {α : Type} (g : Fin 8 → α) (h : Fin 4) : ![g 0, g 1, g 2, g 3] h = g ⟨4 * (0 : Fin 2).val + h.val, by have := h.isLt; show 4 * 0 + _ < 8; omega⟩ :=
  match h with
  | 0 => rfl | 1 => rfl | 2 => rfl | 3 => rfl

/-- The last four of eight. -/
theorem pick1 {α : Type} (g : Fin 8 → α) (h : Fin 4) : ![g 4, g 5, g 6, g 7] h = g ⟨4 * (1 : Fin 2).val + h.val, by have := h.isLt; show 4 * 1 + _ < 8; omega⟩ :=
  match h with
  | 0 => rfl | 1 => rfl | 2 => rfl | 3 => rfl

/-- Each device computes the formula. -/
theorem outAt_at (H : Holds m x wq k v wo) (hr : ∀ b h i j, ∃ r : ℝ, Cert.Attn.sc x wq k b h i j = r) (c : Dev nD)
    (b : Fin 2) (i : Fin 128) (e : Fin 512) : outAt m c (ix3 b i e) = Cert.Attn.attn x wq k v wo b i e := by
  match b with
  | 0 =>
    show out0 (args m c) (got0 m c) (got1 m c) (got2 m c) (ValueIdx.ix3 0 i e) = _
    rw [← ix3_eq_valueIdx, out0_eq, mkOut_at, Cert.Attn.attn]
    refine Finset.sum_congr rfl fun f _ => ?_
    rw [pick0 (O3 (args m c) (got0 m c) (got1 m c) (got2 m c)), pick0 (L3 (args m c) (got0 m c) (got1 m c) (got2 m c)), ldWo_at, H.wo]
    exact congrArg (· * wo f e) (quot_at H hr c 0 _ i _)
  | 1 =>
    show out1 (args m c) (got0 m c) (got1 m c) (got2 m c) (ValueIdx.ix3 0 i e) = _
    rw [← ix3_eq_valueIdx, out1_eq, mkOut_at, Cert.Attn.attn]
    refine Finset.sum_congr rfl fun f _ => ?_
    rw [pick1 (O3 (args m c) (got0 m c) (got1 m c) (got2 m c)), pick1 (L3 (args m c) (got0 m c) (got1 m c) (got2 m c)), ldWo_at, H.wo]
    exact congrArg (· * wo f e) (quot_at H hr c 1 _ i _)

end Out

end Cert.KernelIdeal.Attn
-- ==== Proof.Finite.lean ====
/-
# What the precondition gives

Every element of the queries' input, of the query weights and of the keys is below +∞ in absolute value: it is a real number.
-/
module

public import proofs.«01_k».proof.Pre_finite_scores_KernelIdeal
public import proofs.«01_k».proof.Pre_finite_scores_ReferenceIdeal
public import Idealize.ShloMosaic.Lib.Pointwise
public import Idealize.ShloMosaic.Lib.IdealHost

@[expose] public section

set_option maxRecDepth 16384

noncomputable section

namespace Cert.Pre_finite_scores_KernelIdeal

open Idealize.ShloMosaic

/-- The precondition's shape relations hold. -/
theorem facts : Facts := ⟨by decide, by decide, by decide⟩

variable [Facts]

/-- An extended real below +∞ in absolute value is real. -/
theorem real_of_lt (a : EReal) (h : BitVec.ofBool (decide (max a (-a) < Ideal.ofBits .bf16 0x7F80#16)) = 1#1) : ∃ r : ℝ, a = r := by
  have ht : Ideal.ofBits .bf16 0x7F80#16 = ⊤ := by simp [Ideal.ofBits, Ideal.ieee]
  rw [ht] at h
  induction a with
  | bot => simp at h
  | top => simp at h
  | coe r => exact ⟨r, rfl⟩

/-- The queries' input is real. -/
theorem x_real (x : FVec Ideal S2x128x512 .bf16) (wq : FVec Ideal S512x256 .bf16) (k v : FVec Ideal S2x128x4x64 .bf16)
    (wo : FVec Ideal S256x512 .bf16) (h : (fn x wq k v wo).1 = fun _ => 1#1) (b : Fin 2) (i : Fin 128) (t : Fin 512) :
    ∃ r : ℝ, (x (ix3 b i t) : EReal) = r := by
  have h := congrFun h (ix3 b i t)
  revert h
  pointwise [fn]
  exact real_of_lt _

/-- The query weights are real. -/
theorem wq_real (x : FVec Ideal S2x128x512 .bf16) (wq : FVec Ideal S512x256 .bf16) (k v : FVec Ideal S2x128x4x64 .bf16)
    (wo : FVec Ideal S256x512 .bf16) (h : (fn x wq k v wo).2.1 = fun _ => 1#1) (t : Fin 512) (e : Fin 256) :
    ∃ r : ℝ, (wq (ix2 t e) : EReal) = r := by
  have h := congrFun h (ix2 t e)
  revert h
  pointwise [fn]
  exact real_of_lt _

/-- The keys are real. -/
theorem k_real (x : FVec Ideal S2x128x512 .bf16) (wq : FVec Ideal S512x256 .bf16) (k v : FVec Ideal S2x128x4x64 .bf16)
    (wo : FVec Ideal S256x512 .bf16) (h : (fn x wq k v wo).2.2 = fun _ => 1#1) (b : Fin 2) (j : Fin 128) (n : Fin 4) (d : Fin 64) :
    ∃ r : ℝ, (k (ix4 b j n d) : EReal) = r := by
  have h := congrFun h (ix4 b j n d)
  revert h
  pointwise [fn]
  exact real_of_lt _

end Cert.Pre_finite_scores_KernelIdeal

/-- The same precondition's shape relations, over the reference's arrays. -/
theorem Cert.Pre_finite_scores_ReferenceIdeal.facts : Cert.Pre_finite_scores_ReferenceIdeal.Facts :=
  ⟨by decide, by decide, by decide⟩
-- ==== Proof.Alg.lean ====
/-
# The value claim

At the ideal instance, with finite queries' inputs, query weights and keys, every device's result is the reference's.
-/
module

public import proofs.«01_k».proof.Defs
public import proofs.«01_k».proof.Proof.Ker
public import proofs.«01_k».proof.Proof.Finite
public import Idealize.ShloMosaic.Lib.Layout

@[expose] public section

set_option maxRecDepth 16384

noncomputable section

namespace Cert.KernelIdeal.Attn

open Cert.KernelIdeal Cert.KernelIdeal.Gen
open Idealize.ShloMosaic Idealize.ShloMosaic.TcCoe

/-- A device's block of the keys or the values, at an index: the whole array's element at the device's own key. -/
theorem block_at (c : Fin 8) (w : (⟨4, ![2, 1024, 4, 64]⟩ : Shape).Idx → EReal) (b : Fin 2) (j : Fin 128) (h : Fin 4) (d : Fin 64) :
    Layout.block ⟨4, ![2, 128, 4, 64]⟩ ⟨4, ![2, 1024, 4, 64]⟩ 1 8 c w (by decide) (ix4 b j h d) = w (ix4 b (key c j) h d) := by
  rw [Layout.block_apply]
  refine congrArg w (funext fun a => Fin.ext ?_)
  rw [Layout.Tiles.idx_val]
  fin_cases a
  · rfl
  · show c.val * 128 + j.val = 128 * c.val + j.val
    omega
  · rfl
  · rfl

variable (m : (ℓ : Loc nD τ sig) → Buf (Elt Ideal) ℓ)
  (X : FVec Ideal S2x128x512 .bf16) (WQ : FVec Ideal S512x256 .bf16)
  (K V : FVec Ideal ReferenceIdeal.S2x1024x4x64 .bf16) (WO : FVec Ideal S256x512 .bf16)

/-- The devices' arguments hold their parts of the whole arrays. -/
theorem holds_of
    (h : ∀ c : Dev nD, m ((c.tc : Thread nD τ).loc main_arg0) = X ∧ m ((c.tc : Thread nD τ).loc main_arg1) = WQ
      ∧ m ((c.tc : Thread nD τ).loc main_arg2) = Layout.block ⟨4, ![2, 128, 4, 64]⟩ ⟨4, ![2, 1024, 4, 64]⟩ 1 8 c K
      ∧ m ((c.tc : Thread nD τ).loc main_arg3) = Layout.block ⟨4, ![2, 128, 4, 64]⟩ ⟨4, ![2, 1024, 4, 64]⟩ 1 8 c V
      ∧ m ((c.tc : Thread nD τ).loc main_arg4) = WO) :
    Holds m (fun b i t => X (ix3 b i t)) (fun t e => WQ (ix2 t e)) (fun b j h d => K (ix4 b j h d))
      (fun b j h d => V (ix4 b j h d)) (fun f e => WO (ix2 f e)) where
  x c b i t := by rw [args_eq]; exact congrFun (h c).1 _
  wq c t e := by rw [args_eq]; exact congrFun (h c).2.1 _
  k c b j n d := by rw [args_eq]; exact (congrFun (h c).2.2.1 _).trans (block_at c K b j n d)
  v c b j n d := by rw [args_eq]; exact (congrFun (h c).2.2.2.1 _).trans (block_at c V b j n d)
  wo c f e := by rw [args_eq]; exact congrFun (h c).2.2.2.2 _

/-- Every device's result is the reference's, when every score is real. -/
theorem outAt_eq (H : Holds m (fun b i t => X (ix3 b i t)) (fun t e => WQ (ix2 t e)) (fun b j h d => K (ix4 b j h d))
      (fun b j h d => V (ix4 b j h d)) (fun f e => WO (ix2 f e)))
    (hx : ∀ b i t, ∃ r : ℝ, (X (ix3 b i t) : EReal) = r) (hw : ∀ t e, ∃ r : ℝ, (WQ (ix2 t e) : EReal) = r)
    (hk : ∀ b j h d, ∃ r : ℝ, (K (ix4 b j h d) : EReal) = r) (c : Dev nD) :
    outAt m c = ReferenceIdeal.Attn.out (F := Ideal) X WQ K V WO := by
  funext j
  idx_vars j
  exact (outAt_at H (Cert.Attn.real_sc hx hw hk) c _ _ _).trans (ReferenceIdeal.Attn.out_at X WQ K V WO _ _ _).symm

end Cert.KernelIdeal.Attn

namespace Cert.Proof

open Idealize.ShloMosaic Idealize.SL.Sem
open Cert.KernelIdeal.Attn

/-- The value claim. -/
theorem algebraic [hP : Cert.Pre_finite_scores_KernelIdeal.Facts] :
    Cert.algebraic_KernelIdeal_ReferenceIdeal_pre_finite_scores_KernelIdeal := by
  intro m g m' g' hpre hag
  have H := holds_of m _ _ _ _ _ hag
  have hx : ∀ b i t, ∃ r : ℝ, @Eq EReal (m' (((0 : Dev Cert.ReferenceIdeal.nD).tc : Thread Cert.ReferenceIdeal.nD Cert.ReferenceIdeal.τ).loc Cert.ReferenceIdeal.main_arg0) (ix3 b i t)) (r : EReal) := fun b i t => by
    have h := Cert.Pre_finite_scores_KernelIdeal.x_real _ _ _ _ _ (hpre 0).1 b i t
    rw [(hag 0).1] at h
    exact h
  have hw : ∀ t e, ∃ r : ℝ, @Eq EReal (m' (((0 : Dev Cert.ReferenceIdeal.nD).tc : Thread Cert.ReferenceIdeal.nD Cert.ReferenceIdeal.τ).loc Cert.ReferenceIdeal.main_arg1) (ix2 t e)) (r : EReal) := fun t e => by
    have h := Cert.Pre_finite_scores_KernelIdeal.wq_real _ _ _ _ _ (hpre 0).2.1 t e
    rw [(hag 0).2.1] at h
    exact h
  have hk : ∀ b j h d, ∃ r : ℝ, @Eq EReal (m' (((0 : Dev Cert.ReferenceIdeal.nD).tc : Thread Cert.ReferenceIdeal.nD Cert.ReferenceIdeal.τ).loc Cert.ReferenceIdeal.main_arg2) (ix4 b j h d)) (r : EReal) := fun b j n d => by
    have h := Cert.Pre_finite_scores_KernelIdeal.k_real _ _ _ _ _ (hpre (owner j)).2.2 b ⟨j.val % 128, Nat.mod_lt _ (by decide)⟩ n d
    rw [(hag (owner j)).2.2.1] at h
    have hj : key (owner j) ⟨j.val % 128, Nat.mod_lt _ (by decide)⟩ = j :=
      Fin.ext (show 128 * (j.val / 128) + j.val % 128 = j.val by omega)
    have hb := block_at (owner j) (m' (((0 : Dev Cert.ReferenceIdeal.nD).tc : Thread Cert.ReferenceIdeal.nD Cert.ReferenceIdeal.τ).loc Cert.ReferenceIdeal.main_arg2)) b ⟨j.val % 128, Nat.mod_lt _ (by decide)⟩ n d
    rw [hj] at hb
    exact hb ▸ h
  refine ⟨_, (θ_run Cert.KernelIdeal.defs _ _).mono (fun r h c => ⟨(h.1 c).1.trans (outAt_eq m _ _ _ _ _ H hx hw hk c), (h.1 c).2⟩)
      (run_main (F := Ideal) m g), ?_⟩
  exact (θ_run Cert.ReferenceIdeal.defs _ _).mono (fun r h => ⟨(h 0).1.trans (Cert.ReferenceIdeal.Attn.res_eq m' 0), (h 0).2⟩)
    (Cert.ReferenceIdeal.Value.run (F := Ideal) m' g')

end Cert.Proof
-- ==== Proof.lean ====
/-
# The certificate's claims

The frames: each program runs, leaves its arguments and every counter as they were. The kernel and its ideal instance are the
same text, run once for any float values. And the value claim: at the ideal instance every device's result is the reference's.
-/
module

public import proofs.«01_k».proof.Defs
public import proofs.«01_k».proof.Proof.Gen.Kernel
public import proofs.«01_k».proof.Proof.Gen.ReferenceIdeal.Run
public import proofs.«01_k».proof.Proof.Alg
public import Idealize.ShloMosaic.Lib.Quiescent

@[expose] public section

noncomputable section

namespace Cert.Proof

open Idealize.ShloMosaic Idealize.SL.Sem

/-- The two programs' kernels are one text. -/
theorem defs₀_eq : Cert.Kernel.defs₀ (F := Bits) = Cert.KernelIdeal.defs₀ (F := Bits) := by
  unfold Cert.Kernel.defs₀ Cert.KernelIdeal.defs₀
  refine congrArg Defs.onTc (funext fun l => funext fun p => ?_)
  obtain ⟨l, hl⟩ := l
  match l, hl, p with
  | 0, _, (t, s) => rfl

/-- The two programs' tables of bodies are one. -/
theorem defs_eq : Cert.Kernel.defs (F := Bits) = Cert.KernelIdeal.defs (F := Bits) := by
  unfold Cert.Kernel.defs Cert.KernelIdeal.defs
  exact congrArg _ defs₀_eq

/-- The kernel at the bit-exact instance runs and leaves its arguments and every counter as they were. -/
theorem frame_kernel : Cert.quiescent_Kernel := by
  intro m ρ _
  rw [defs_eq]
  exact (θ_run Cert.KernelIdeal.defs _ _).mono (fun _ h => ⟨fun c => (h.1 c).2, h.2⟩)
    (Cert.KernelIdeal.Attn.run_main (F := Bits) m ρ)

/-- The kernel at the ideal instance runs and leaves its arguments and every counter as they were. -/
theorem frame_kernelIdeal : Cert.quiescent_KernelIdeal := fun m ρ _ =>
  (θ_run Cert.KernelIdeal.defs _ _).mono (fun _ h => ⟨fun c => (h.1 c).2, h.2⟩)
    (Cert.KernelIdeal.Attn.run_main (F := Ideal) m ρ)

/-- The reference at the ideal instance runs and leaves its arguments as they were; it declares no counter. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's frame, under the value claim's precondition. -/
theorem frame_kernelIdeal_pre [Cert.Pre_finite_scores_KernelIdeal.Facts] :
    Cert.quiescent_KernelIdeal_pre_finite_scores_KernelIdeal := fun m ρ _ => frame_kernelIdeal m ρ True.intro

/-- The reference's frame, under the value claim's precondition. -/
theorem frame_referenceIdeal_pre [Cert.Pre_finite_scores_ReferenceIdeal.Facts] :
    Cert.quiescent_ReferenceIdeal_pre_finite_scores_ReferenceIdeal := fun m ρ _ => frame_referenceIdeal m ρ True.intro

/-- The certificate. -/
theorem claim : Cert.Claim :=
  ⟨Cert.Kernel.Gen.facts, Cert.KernelIdeal.Gen.facts, Cert.ReferenceIdeal.Gen.facts,
    Cert.Pre_finite_scores_KernelIdeal.facts, Cert.Pre_finite_scores_ReferenceIdeal.facts,
    frame_kernel, frame_kernelIdeal,
    @frame_kernelIdeal_pre Cert.Pre_finite_scores_KernelIdeal.facts, frame_referenceIdeal,
    @frame_referenceIdeal_pre Cert.Pre_finite_scores_ReferenceIdeal.facts, trivial,
    @algebraic Cert.Pre_finite_scores_KernelIdeal.facts⟩

end Cert.Proof

end
